-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).1 = (fun _ => 1#1)
    ∧ (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).2 = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_finite_qkv [hPre_finite_qkv : Cert.Pre_finite_qkv.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))).1 = (fun _ => 1#1)
    ∧ (Cert.Pre_finite_qkv.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def quiescent_QkvReferenceIdeal_pre_finite_qkv [hQkvReferenceIdeal : Cert.QkvReferenceIdeal.Facts] [hPre_finite_qkv : Cert.Pre_finite_qkv.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_finite_qkv m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Qkv_QkvIdeal : Prop :=
  True

def algebraic_QkvIdeal_QkvReferenceIdeal_pre_finite_qkv [hQkvIdeal : Cert.QkvIdeal.Facts] [hQkvReferenceIdeal : Cert.QkvReferenceIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal_finite_qkv m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvReferenceIdeal (hQkvReferenceIdeal := hQkvReferenceIdeal)
    ∧ quiescent_QkvReferenceIdeal_pre_finite_qkv (hQkvReferenceIdeal := hQkvReferenceIdeal) (hPre_finite_qkv := hPre_finite_qkv)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv_QkvIdeal
    ∧ algebraic_QkvIdeal_QkvReferenceIdeal_pre_finite_qkv (hQkvIdeal := hQkvIdeal) (hQkvReferenceIdeal := hQkvReferenceIdeal) (hPre_finite_qkv := hPre_finite_qkv)
-- ==== Pre_finite.lean ====
abbrev S1536x2048 : Shape := ⟨2, ![1536, 2048]⟩
abbrev S2x768 : Shape := ⟨2, ![2, 768]⟩
abbrev S1x2048 : Shape := ⟨2, ![1, 2048]⟩
abbrev S2048x7168 : Shape := ⟨2, ![2048, 7168]⟩
abbrev S1x7168 : Shape := ⟨2, ![1, 7168]⟩
abbrev S7168x2048 : Shape := ⟨2, ![7168, 2048]⟩
abbrev S_ : Shape := ⟨0, ![]⟩

class Facts : Prop where
  bcast_S_S1536x2048 : S_.BroadcastsInDim S1536x2048 (![] : Fin 0 → Fin S1536x2048.rank)
  bcast_S_S2x768 : S_.BroadcastsInDim S2x768 (![] : Fin 0 → Fin S2x768.rank)
  bcast_S_S7168x2048 : S_.BroadcastsInDim S7168x2048 (![] : Fin 0 → Fin S7168x2048.rank)
  bcast_S_S1x2048 : S_.BroadcastsInDim S1x2048 (![] : Fin 0 → Fin S1x2048.rank)

variable [Facts]

def fn {F : FTy → Type} [FloatOps F] (main_arg0 : FVec F S1536x2048 .f32) (main_arg1 : FVec F S2x768 .f32) (main_arg2 : IVec S2x768 32) (main_arg3 : FVec F S1x2048 .f32) (main_arg4 : FVec F S1x2048 .f32) (main_arg5 : FVec F S2048x7168 .fp8e4m3) (main_arg6 : FVec F S1x7168 .f32) (main_arg7 : FVec F S1x7168 .f32) (main_arg8 : FVec F S7168x2048 .f32) (main_arg9 : FVec F S1x2048 .f32) (main_arg10 : FVec F S1x2048 .f32) : IVec S1536x2048 1 × IVec S2x768 1 × IVec S7168x2048 1 × IVec S1x2048 1 × IVec S1x2048 1 :=
  let main_v0 : FVec F S1536x2048 .f32 := Host.absf main_arg0
  let main_cst : FVec F S_ .f32 := constant S_ .f32 0x7F800000#32
  let main_v1 : FVec F S1536x2048 .f32 := broadcastInDim S1536x2048 ![] bcast_S_S1536x2048 main_cst
  let main_v2 : IVec S1536x2048 1 := cmpf .olt main_v0 main_v1
  let main_v3 : FVec F S2x768 .f32 := Host.absf main_arg1
  let main_cst_0 : FVec F S_ .f32 := constant S_ .f32 0x7F800000#32
  let main_v4 : FVec F S2x768 .f32 := broadcastInDim S2x768 ![] bcast_S_S2x768 main_cst_0
  let main_v5 : IVec S2x768 1 := cmpf .olt main_v3 main_v4
  let main_v6 : FVec F S7168x2048 .f32 := Host.absf main_arg8
  let main_cst_1 : FVec F S_ .f32 := constant S_ .f32 0x7F800000#32
  let main_v7 : FVec F S7168x2048 .f32 := broadcastInDim S7168x2048 ![] bcast_S_S7168x2048 main_cst_1
  let main_v8 : IVec S7168x2048 1 := cmpf .olt main_v6 main_v7
  let main_v9 : FVec F S1x2048 .f32 := Host.absf main_arg9
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg10
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite_qkv.lean ====
abbrev S1536x2048 : Shape := ⟨2, ![1536, 2048]⟩
abbrev S1x2048 : Shape := ⟨2, ![1, 2048]⟩
abbrev S6144x2048 : Shape := ⟨2, ![6144, 2048]⟩
abbrev S1x6144 : Shape := ⟨2, ![1, 6144]⟩
abbrev S_ : Shape := ⟨0, ![]⟩

class Facts : Prop where
  bcast_S_S1x2048 : S_.BroadcastsInDim S1x2048 (![] : Fin 0 → Fin S1x2048.rank)
  bcast_S_S6144x2048 : S_.BroadcastsInDim S6144x2048 (![] : Fin 0 → Fin S6144x2048.rank)

variable [Facts]

def fn {F : FTy → Type} [FloatOps F] (main_arg0 : FVec F S1536x2048 .bf16) (main_arg1 : FVec F S1x2048 .f32) (main_arg2 : FVec F S1x2048 .f32) (main_arg3 : FVec F S6144x2048 .f32) (main_arg4 : FVec F S1x6144 .f32) : IVec S1x2048 1 × IVec S6144x2048 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S6144x2048 .f32 := Host.absf main_arg3
  let main_cst_0 : FVec F S_ .f32 := constant S_ .f32 0x7F800000#32
  let main_v4 : FVec F S6144x2048 .f32 := broadcastInDim S6144x2048 ![] bcast_S_S6144x2048 main_cst_0
  let main_v5 : IVec S6144x2048 1 := cmpf .olt main_v3 main_v4
  (main_v2, main_v5)
-- ==== Kernel.lean ====
abbrev S1536x2048 : Shape := ⟨2, ![1536, 2048]⟩
abbrev S2x768 : Shape := ⟨2, ![2, 768]⟩
abbrev S1x2048 : Shape := ⟨2, ![1, 2048]⟩
abbrev S2048x7168 : Shape := ⟨2, ![2048, 7168]⟩
abbrev S1x7168 : Shape := ⟨2, ![1, 7168]⟩
abbrev S7168x2048 : Shape := ⟨2, ![7168, 2048]⟩
abbrev S2x576x2048 : Shape := ⟨3, ![2, 576, 2048]⟩
abbrev S2x576 : Shape := ⟨2, ![2, 576]⟩
abbrev S1536x7168 : Shape := ⟨2, ![1536, 7168]⟩
abbrev S256x2048 : Shape := ⟨2, ![256, 2048]⟩
abbrev S1x576x2048 : Shape := ⟨3, ![1, 576, 2048]⟩
abbrev S256x7168 : Shape := ⟨2, ![256, 7168]⟩
abbrev S576x2048 : Shape := ⟨2, ![576, 2048]⟩
abbrev S576x128 : Shape := ⟨2, ![576, 128]⟩
abbrev S256 : Shape := ⟨1, ![256]⟩
abbrev S256x1 : Shape := ⟨2, ![256, 1]⟩
abbrev S256x246 : Shape := ⟨2, ![256, 246]⟩
abbrev S1x256 : Shape := ⟨2, ![1, 256]⟩
abbrev S2048x1024 : Shape := ⟨2, ![2048, 1024]⟩
abbrev S256x1024 : Shape := ⟨2, ![256, 1024]⟩
abbrev S1x1024 : Shape := ⟨2, ![1, 1024]⟩
abbrev S576x256 : Shape := ⟨2, ![576, 256]⟩
abbrev S576 : Shape := ⟨1, ![576]⟩
abbrev S576x1 : Shape := ⟨2, ![576, 1]⟩
abbrev S1x576 : Shape := ⟨2, ![1, 576]⟩

abbrev nBuf : Space → Nat
  | .hbm => 18
  | .vmem => 24
  | .smem => 0
  | _ => 0

abbrev bufTy : (tb : Table) → Fin (tcTables nBuf tb) → BufTy
  | .hbm, ⟨0, _⟩ => ⟨S1536x2048, .f32⟩
  | .hbm, ⟨1, _⟩ => ⟨S2x768, .f32⟩
  | .hbm, ⟨2, _⟩ => ⟨S2x768, .i32⟩
  | .hbm, ⟨3, _⟩ => ⟨S1x2048, .f32⟩
  | .hbm, ⟨4, _⟩ => ⟨S1x2048, .f32⟩
  | .hbm, ⟨5, _⟩ => ⟨S2048x7168, .fp8e4m3⟩
  | .hbm, ⟨6, _⟩ => ⟨S1x7168, .f32⟩
  | .hbm, ⟨7, _⟩ => ⟨S1x7168, .f32⟩
  | .hbm, ⟨8, _⟩ => ⟨S7168x2048, .f32⟩
  | .hbm, ⟨9, _⟩ => ⟨S1x2048, .f32⟩
  | .hbm, ⟨10, _⟩ => ⟨S1x2048, .f32⟩
  | .hbm, ⟨11, _⟩ => ⟨S7168x2048, .fp8e4m3⟩
  | .hbm, ⟨12, _⟩ => ⟨S2x576x2048, .bf16⟩
  | .hbm, ⟨13, _⟩ => ⟨S2x576, .f32⟩
  | .hbm, ⟨14, _⟩ => ⟨S1536x2048, .fp8e4m3⟩
  | .hbm, ⟨15, _⟩ => ⟨S2x768, .f32⟩
  | .hbm, ⟨16, _⟩ => ⟨S1536x7168, .fp8e4m3⟩
  | .hbm, ⟨17, _⟩ => ⟨S2x768, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S2048x7168, .fp8e4m3⟩
  | .local _ .vmem, ⟨5, _⟩ => ⟨S1x7168, .f32⟩
  | .local _ .vmem, ⟨6, _⟩ => ⟨S1x7168, .f32⟩
  | .local _ .vmem, ⟨7, _⟩ => ⟨S7168x2048, .fp8e4m3⟩
  | .local _ .vmem, ⟨8, _⟩ => ⟨S1x2048, .f32⟩
  | .local _ .vmem, ⟨9, _⟩ => ⟨S1x2048, .f32⟩
  | .local _ .vmem, ⟨10, _⟩ => ⟨S2x768, .f32⟩
  | .local _ .vmem, ⟨11, _⟩ => ⟨S2x768, .i32⟩
  | .local _ .vmem, ⟨12, _⟩ => ⟨S1x576x2048, .bf16⟩
  | .local _ .vmem, ⟨13, _⟩ => ⟨S1x576x2048, .bf16⟩
  | .local _ .vmem, ⟨14, _⟩ => ⟨S2x576, .f32⟩
  | .local _ .vmem, ⟨15, _⟩ => ⟨S256x2048, .fp8e4m3⟩
  | .local _ .vmem, ⟨16, _⟩ => ⟨S256x2048, .fp8e4m3⟩
  | .local _ .vmem, ⟨17, _⟩ => ⟨S2x768, .f32⟩
  | .local _ .vmem, ⟨18, _⟩ => ⟨S256x7168, .fp8e4m3⟩
  | .local _ .vmem, ⟨19, _⟩ => ⟨S256x7168, .fp8e4m3⟩
  | .local _ .vmem, ⟨20, _⟩ => ⟨S2x768, .f32⟩
  | .local _ .vmem, ⟨21, _⟩ => ⟨S256x7168, .f32⟩
  | .local _ .vmem, ⟨22, _⟩ => ⟨S576x2048, .f32⟩
  | .local _ .vmem, ⟨23, _⟩ => ⟨S576x128, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem15_0 : DmaSem sig := 18
abbrev cc0_sem15_1 : DmaSem sig := 19
abbrev cc0_sem16_0 : DmaSem sig := 20

abbrev nD : Nat := 1
abbrev τ : Topo := Topo.v7x

variable {F : FTy → Type} [FloatOps F]

abbrev grid0 : Pipeline.Grid := ⟨2, ![2, 3], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg0 : BitVec 32 := BitVec.ofNat 32 (i 0).val
  let v68 : Index := Scalar.indexCast arg0
  let arg1 : BitVec 32 := BitVec.ofNat 32 (i 1).val
  let c256_i32 : BitVec 32 := 256#32
  let v0 : BitVec 32 := Scalar.muli arg1 c256_i32
  let v1 : BitVec 32 := v0
  let v69 : Index := Scalar.indexCast v1
  ![v68.toNat, v69.toNat]
def k0_cond2 (i : grid0.Coords) : BitVec 1 :=
  let arg1 : BitVec 32 := BitVec.ofNat 32 (i 1).val
  let c2_i32 : BitVec 32 := 2#32
  let v368 : BitVec 1 := Scalar.cmpi .eq arg1 c2_i32
  let v369 : BitVec 32 := Scalar.extui v368
  let c0_i32_169 : BitVec 32 := 0#32
  let v370 : BitVec 1 := Scalar.cmpi .ne v369 c0_i32_169
  v370

def k0_off2 (i : grid0.Coords) : Fin 2 → Nat :=
  let arg0 : BitVec 32 := BitVec.ofNat 32 (i 0).val
  let v373 : Index := Scalar.indexCast arg0
  let c0_172 : Index := 0#32
  ![v373.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S7168x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x768 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x576x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2x576 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S2x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x7168 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S2x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S1536x2048 : Shape := ⟨2, ![1536, 2048]⟩
abbrev S2x768 : Shape := ⟨2, ![2, 768]⟩
abbrev S1x2048 : Shape := ⟨2, ![1, 2048]⟩
abbrev S2048x7168 : Shape := ⟨2, ![2048, 7168]⟩
abbrev S1x7168 : Shape := ⟨2, ![1, 7168]⟩
abbrev S7168x2048 : Shape := ⟨2, ![7168, 2048]⟩
abbrev S2x576x2048 : Shape := ⟨3, ![2, 576, 2048]⟩
abbrev S2x576 : Shape := ⟨2, ![2, 576]⟩
abbrev S1536x7168 : Shape := ⟨2, ![1536, 7168]⟩
abbrev S1536 : Shape := ⟨1, ![1536]⟩
abbrev S1536x1 : Shape := ⟨2, ![1536, 1]⟩
abbrev S2x768x2048 : Shape := ⟨3, ![2, 768, 2048]⟩
abbrev S2x576x768 : Shape := ⟨3, ![2, 576, 768]⟩
abbrev S2x1x768 : Shape := ⟨3, ![2, 1, 768]⟩
abbrev S2x768x1 : Shape := ⟨3, ![2, 768, 1]⟩
abbrev S2x576x1 : Shape := ⟨3, ![2, 576, 1]⟩

abbrev nBuf : Space → Nat
  | .hbm => 17
  | .vmem => 17
  | .smem => 0
  | _ => 0

abbrev bufTy : (tb : Table) → Fin (tcTables nBuf tb) → BufTy
  | .hbm, ⟨0, _⟩ => ⟨S1536x2048, .f32⟩
  | .hbm, ⟨1, _⟩ => ⟨S2x768, .f32⟩
  | .hbm, ⟨2, _⟩ => ⟨S2x768, .i32⟩
  | .hbm, ⟨3, _⟩ => ⟨S1x2048, .f32⟩
  | .hbm, ⟨4, _⟩ => ⟨S1x2048, .f32⟩
  | .hbm, ⟨5, _⟩ => ⟨S2048x7168, .fp8e4m3⟩
  | .hbm, ⟨6, _⟩ => ⟨S1x7168, .f32⟩
  | .hbm, ⟨7, _⟩ => ⟨S1x7168, .f32⟩
  | .hbm, ⟨8, _⟩ => ⟨S7168x2048, .f32⟩
  | .hbm, ⟨9, _⟩ => ⟨S1x2048, .f32⟩
  | .hbm, ⟨10, _⟩ => ⟨S1x2048, .f32⟩
  | .hbm, ⟨11, _⟩ => ⟨S2x576x2048, .bf16⟩
  | .hbm, ⟨12, _⟩ => ⟨S2x576, .f32⟩
  | .hbm, ⟨13, _⟩ => ⟨S1536x2048, .fp8e4m3⟩
  | .hbm, ⟨14, _⟩ => ⟨S2x768, .f32⟩
  | .hbm, ⟨15, _⟩ => ⟨S1536x7168, .fp8e4m3⟩
  | .hbm, ⟨16, _⟩ => ⟨S2x768, .f32⟩
  | .local _ .vmem, ⟨0, _⟩ => ⟨S1536x2048, .f32⟩
  | .local _ .vmem, ⟨1, _⟩ => ⟨S2x768, .f32⟩
  | .local _ .vmem, ⟨2, _⟩ => ⟨S2x768, .i32⟩
  | .local _ .vmem, ⟨3, _⟩ => ⟨S1x2048, .f32⟩
  | .local _ .vmem, ⟨4, _⟩ => ⟨S1x2048, .f32⟩
  | .local _ .vmem, ⟨5, _⟩ => ⟨S2048x7168, .fp8e4m3⟩
  | .local _ .vmem, ⟨6, _⟩ => ⟨S1x7168, .f32⟩
  | .local _ .vmem, ⟨7, _⟩ => ⟨S1x7168, .f32⟩
  | .local _ .vmem, ⟨8, _⟩ => ⟨S7168x2048, .f32⟩
  | .local _ .vmem, ⟨9, _⟩ => ⟨S1x2048, .f32⟩
  | .local _ .vmem, ⟨10, _⟩ => ⟨S1x2048, .f32⟩
  | .local _ .vmem, ⟨11, _⟩ => ⟨S2x576x2048, .bf16⟩
  | .local _ .vmem, ⟨12, _⟩ => ⟨S2x576, .f32⟩
  | .local _ .vmem, ⟨13, _⟩ => ⟨S1536x2048, .fp8e4m3⟩
  | .local _ .vmem, ⟨14, _⟩ => ⟨S2x768, .f32⟩
  | .local _ .vmem, ⟨15, _⟩ => ⟨S1536x7168, .fp8e4m3⟩
  | .local _ .vmem, ⟨16, _⟩ => ⟨S2x768, .f32⟩
  | _, _ => ⟨S1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1536x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7168 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x576x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x576 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536x2048 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536x7168 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Qkv.lean ====
abbrev S1536x2048 : Shape := ⟨2, ![1536, 2048]⟩
abbrev S1x2048 : Shape := ⟨2, ![1, 2048]⟩
abbrev S6144x2048 : Shape := ⟨2, ![6144, 2048]⟩
abbrev S1x6144 : Shape := ⟨2, ![1, 6144]⟩
abbrev S1536x6144 : Shape := ⟨2, ![1536, 6144]⟩
abbrev S256x2048 : Shape := ⟨2, ![256, 2048]⟩
abbrev S1x256 : Shape := ⟨2, ![1, 256]⟩
abbrev S1536x256 : Shape := ⟨2, ![1536, 256]⟩
abbrev S1536x128 : Shape := ⟨2, ![1536, 128]⟩
abbrev S3x256x2048 : Shape := ⟨3, ![3, 256, 2048]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x256x2048 : Shape := ⟨3, ![1, 256, 2048]⟩
abbrev S256x128 : Shape := ⟨2, ![256, 128]⟩
abbrev S128x256 : Shape := ⟨2, ![128, 256]⟩
abbrev S256 : Shape := ⟨1, ![256]⟩
abbrev S512x2048 : Shape := ⟨2, ![512, 2048]⟩
abbrev S512x256 : Shape := ⟨2, ![512, 256]⟩
abbrev S512x1 : Shape := ⟨2, ![512, 1]⟩

abbrev nBuf : Space → Nat
  | .hbm => 6
  | .vmem => 13
  | .smem => 0
  | _ => 0

abbrev bufTy : (tb : Table) → Fin (tcTables nBuf tb) → BufTy
  | .hbm, ⟨0, _⟩ => ⟨S1536x2048, .bf16⟩
  | .hbm, ⟨1, _⟩ => ⟨S1x2048, .f32⟩
  | .hbm, ⟨2, _⟩ => ⟨S1x2048, .f32⟩
  | .hbm, ⟨3, _⟩ => ⟨S6144x2048, .f32⟩
  | .hbm, ⟨4, _⟩ => ⟨S1x6144, .f32⟩
  | .hbm, ⟨5, _⟩ => ⟨S1536x6144, .f32⟩
  | .local _ .vmem, ⟨0, _⟩ => ⟨S1536x2048, .bf16⟩
  | .local _ .vmem, ⟨1, _⟩ => ⟨S1x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x256, .f32⟩
  | .local _ .vmem, ⟨6, _⟩ => ⟨S1x256, .f32⟩
  | .local _ .vmem, ⟨7, _⟩ => ⟨S1536x256, .f32⟩
  | .local _ .vmem, ⟨8, _⟩ => ⟨S1536x256, .f32⟩
  | .local _ .vmem, ⟨9, _⟩ => ⟨S1536x2048, .bf16⟩
  | .local _ .vmem, ⟨10, _⟩ => ⟨S1536x128, .f32⟩
  | .local _ .vmem, ⟨11, _⟩ => ⟨S1536x128, .f32⟩
  | .local _ .vmem, ⟨12, _⟩ => ⟨S3x256x2048, .bf16⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_74 : BitVec 32 := 0#32
  let c12_i32 : BitVec 32 := 12#32
  let v165 : BitVec 32 := Scalar.addi c0_i32_74 c12_i32
  let c1_i32 : BitVec 32 := 1#32
  ⟨c0_i32_74, v165, c1_i32⟩
def k0_mult1 (k0_t1 : Fin k0_t1_loop.trips) : BitVec 32 :=
  let c0_i32_74 : BitVec 32 := 0#32
  let c1_i32 : BitVec 32 := 1#32
  let arg11 : BitVec 32 := Scf.iv c0_i32_74 c1_i32 k0_t1
  let c128_i32 : BitVec 32 := 128#32
  let v166 : BitVec 32 := Scalar.muli arg11 c128_i32
  v166
def k0_off1 (k0_t1 : Fin k0_t1_loop.trips) : Fin 2 → Nat :=
  let c0_i32_74 : BitVec 32 := 0#32
  let c1_i32 : BitVec 32 := 1#32
  let arg11 : BitVec 32 := Scf.iv c0_i32_74 c1_i32 k0_t1
  let c128_i32 : BitVec 32 := 128#32
  let v166 : BitVec 32 := Scalar.muli arg11 c128_i32
  let v167 : BitVec 32 := v166
  let v168 : Index := Scalar.indexCast v167
  let c0_76 : Index := 0#32
  ![v168.toNat, 0]
def k0_off2 (k0_t1 : Fin k0_t1_loop.trips) : Fin 2 → Nat :=
  let c0_i32_74 : BitVec 32 := 0#32
  let c1_i32 : BitVec 32 := 1#32
  let arg11 : BitVec 32 := Scf.iv c0_i32_74 c1_i32 k0_t1
  let c128_i32 : BitVec 32 := 128#32
  let v166 : BitVec 32 := Scalar.muli arg11 c128_i32
  let v167 : BitVec 32 := v166
  let v210 : Index := Scalar.indexCast v167
  let c0_88 : Index := 0#32
  ![v210.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvReferenceIdeal.lean ====
abbrev S1536x2048 : Shape := ⟨2, ![1536, 2048]⟩
abbrev S1x2048 : Shape := ⟨2, ![1, 2048]⟩
abbrev S6144x2048 : Shape := ⟨2, ![6144, 2048]⟩
abbrev S1x6144 : Shape := ⟨2, ![1, 6144]⟩
abbrev S1536x6144 : Shape := ⟨2, ![1536, 6144]⟩
abbrev S1536 : Shape := ⟨1, ![1536]⟩
abbrev S1536x1 : Shape := ⟨2, ![1536, 1]⟩

abbrev nBuf : Space → Nat
  | .hbm => 6
  | .vmem => 6
  | .smem => 0
  | _ => 0

abbrev bufTy : (tb : Table) → Fin (tcTables nBuf tb) → BufTy
  | .hbm, ⟨0, _⟩ => ⟨S1536x2048, .bf16⟩
  | .hbm, ⟨1, _⟩ => ⟨S1x2048, .f32⟩
  | .hbm, ⟨2, _⟩ => ⟨S1x2048, .f32⟩
  | .hbm, ⟨3, _⟩ => ⟨S6144x2048, .f32⟩
  | .hbm, ⟨4, _⟩ => ⟨S1x6144, .f32⟩
  | .hbm, ⟨5, _⟩ => ⟨S1536x6144, .f32⟩
  | .local _ .vmem, ⟨0, _⟩ => ⟨S1536x2048, .bf16⟩
  | .local _ .vmem, ⟨1, _⟩ => ⟨S1x2048, .f32⟩
  | .local _ .vmem, ⟨2, _⟩ => ⟨S1x2048, .f32⟩
  | .local _ .vmem, ⟨3, _⟩ => ⟨S6144x2048, .f32⟩
  | .local _ .vmem, ⟨4, _⟩ => ⟨S1x6144, .f32⟩
  | .local _ .vmem, ⟨5, _⟩ => ⟨S1536x6144, .f32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Hand.Vals.lean ====
/- What one grid point of the kernel's body computes, as functions of the blocks it reads: the payloads of the
   body's skeleton composed in the body's order (`Ins.hc`, `Ins.gc`, … the values it stores). -/
module

public import proofs.«01_k».proof.Proof.Gen.KernelIdeal.Skeleton
public import Idealize.ShloMosaic.Lib.Pipeline.FrameBody

@[expose] public section

set_option maxRecDepth 16384

noncomputable section

namespace Cert.KernelIdeal.Hand

open Idealize.ShloMosaic Idealize.ShloMosaic.TcCoe
open Cert.KernelIdeal.Gen

variable {F : FTy → Type} [FloatOps F]

/-- The blocks of the kernel's eleven inputs at one grid point. -/
structure Ins (F : FTy → Type) [FloatOps F] where
  /-- the tile of 256 tokens -/
  x0 : Vec F S256x2048 .f32
  /-- layer-norm gain -/
  x1 : Vec F S1x2048 .f32
  /-- layer-norm offset -/
  x2 : Vec F S1x2048 .f32
  /-- codes of the first weight -/
  x3 : Vec F S2048x7168 .fp8e4m3
  /-- its column scales -/
  x4 : Vec F S1x7168 .f32
  /-- first bias -/
  x5 : Vec F S1x7168 .f32
  /-- codes of the second weight -/
  x6 : Vec F S7168x2048 .fp8e4m3
  /-- its column scales -/
  x7 : Vec F S1x2048 .f32
  /-- second bias -/
  x8 : Vec F S1x2048 .f32
  /-- token sizes -/
  x9 : Vec F S2x768 .f32
  /-- destination slots -/
  x10 : Vec F S2x768 .i32

namespace Ins

variable (I : Ins F)

/-- The layer norm of the tile. -/
def h : FVec F S256x2048 .f32 := k0_pay4 I.x0 I.x1 I.x2
/-- Which steps of the power-of-two ladder each row's scaled maximum reaches. -/
def mask : IVec S256x246 1 := k0_pay5 I.x0 I.x1 I.x2
/-- The scales of the normed rows. -/
def hs : FVec F S256x1 .f32 := k0_pay9 (F := F) I.mask k0_pay6 k0_pay7
/-- The codes of the normed rows. -/
def hc : FVec F S256x2048 .fp8e4m3 := k0_pay10 I.h I.mask k0_pay6 k0_pay7
/-- The scales, as the row the kernel stores. -/
def hsr : FVec F S1x256 .f32 := k0_pay11 (F := F) I.mask k0_pay6 k0_pay7

/-- Chunk 0 of the first weight, its scales and its bias. -/
def w_0 : Vec F S2048x1024 .fp8e4m3 := View.ld I.x3 (Rect.unit (s := S2048x7168) ![0, 0] S2048x1024.size inb_S2048x7168_S2048x1024_0_0)
@[inherit_doc w_0] def s_0 : Vec F S1x1024 .f32 := View.ld I.x4 (Rect.unit (s := S1x7168) ![0, 0] S1x1024.size inb_S1x7168_S1x1024_0_0)
@[inherit_doc w_0] def b_0 : Vec F S1x1024 .f32 := View.ld I.x5 (Rect.unit (s := S1x7168) ![0, 0] S1x1024.size inb_S1x7168_S1x1024_0_0)

/-- Chunk 1 of the first weight, its scales and its bias. -/
def w_1 : Vec F S2048x1024 .fp8e4m3 := View.ld I.x3 (Rect.unit (s := S2048x7168) ![0, 1024] S2048x1024.size inb_S2048x7168_S2048x1024_0_1024)
@[inherit_doc w_1] def s_1 : Vec F S1x1024 .f32 := View.ld I.x4 (Rect.unit (s := S1x7168) ![0, 1024] S1x1024.size inb_S1x7168_S1x1024_0_1024)
@[inherit_doc w_1] def b_1 : Vec F S1x1024 .f32 := View.ld I.x5 (Rect.unit (s := S1x7168) ![0, 1024] S1x1024.size inb_S1x7168_S1x1024_0_1024)

/-- Chunk 2 of the first weight, its scales and its bias. -/
def w_2 : Vec F S2048x1024 .fp8e4m3 := View.ld I.x3 (Rect.unit (s := S2048x7168) ![0, 2048] S2048x1024.size inb_S2048x7168_S2048x1024_0_2048)
@[inherit_doc w_2] def s_2 : Vec F S1x1024 .f32 := View.ld I.x4 (Rect.unit (s := S1x7168) ![0, 2048] S1x1024.size inb_S1x7168_S1x1024_0_2048)
@[inherit_doc w_2] def b_2 : Vec F S1x1024 .f32 := View.ld I.x5 (Rect.unit (s := S1x7168) ![0, 2048] S1x1024.size inb_S1x7168_S1x1024_0_2048)

/-- Chunk 3 of the first weight, its scales and its bias. -/
def w_3 : Vec F S2048x1024 .fp8e4m3 := View.ld I.x3 (Rect.unit (s := S2048x7168) ![0, 3072] S2048x1024.size inb_S2048x7168_S2048x1024_0_3072)
@[inherit_doc w_3] def s_3 : Vec F S1x1024 .f32 := View.ld I.x4 (Rect.unit (s := S1x7168) ![0, 3072] S1x1024.size inb_S1x7168_S1x1024_0_3072)
@[inherit_doc w_3] def b_3 : Vec F S1x1024 .f32 := View.ld I.x5 (Rect.unit (s := S1x7168) ![0, 3072] S1x1024.size inb_S1x7168_S1x1024_0_3072)

/-- Chunk 4 of the first weight, its scales and its bias. -/
def w_4 : Vec F S2048x1024 .fp8e4m3 := View.ld I.x3 (Rect.unit (s := S2048x7168) ![0, 4096] S2048x1024.size inb_S2048x7168_S2048x1024_0_4096)
@[inherit_doc w_4] def s_4 : Vec F S1x1024 .f32 := View.ld I.x4 (Rect.unit (s := S1x7168) ![0, 4096] S1x1024.size inb_S1x7168_S1x1024_0_4096)
@[inherit_doc w_4] def b_4 : Vec F S1x1024 .f32 := View.ld I.x5 (Rect.unit (s := S1x7168) ![0, 4096] S1x1024.size inb_S1x7168_S1x1024_0_4096)

/-- Chunk 5 of the first weight, its scales and its bias. -/
def w_5 : Vec F S2048x1024 .fp8e4m3 := View.ld I.x3 (Rect.unit (s := S2048x7168) ![0, 5120] S2048x1024.size inb_S2048x7168_S2048x1024_0_5120)
@[inherit_doc w_5] def s_5 : Vec F S1x1024 .f32 := View.ld I.x4 (Rect.unit (s := S1x7168) ![0, 5120] S1x1024.size inb_S1x7168_S1x1024_0_5120)
@[inherit_doc w_5] def b_5 : Vec F S1x1024 .f32 := View.ld I.x5 (Rect.unit (s := S1x7168) ![0, 5120] S1x1024.size inb_S1x7168_S1x1024_0_5120)

/-- Chunk 6 of the first weight, its scales and its bias. -/
def w_6 : Vec F S2048x1024 .fp8e4m3 := View.ld I.x3 (Rect.unit (s := S2048x7168) ![0, 6144] S2048x1024.size inb_S2048x7168_S2048x1024_0_6144)
@[inherit_doc w_6] def s_6 : Vec F S1x1024 .f32 := View.ld I.x4 (Rect.unit (s := S1x7168) ![0, 6144] S1x1024.size inb_S1x7168_S1x1024_0_6144)
@[inherit_doc w_6] def b_6 : Vec F S1x1024 .f32 := View.ld I.x5 (Rect.unit (s := S1x7168) ![0, 6144] S1x1024.size inb_S1x7168_S1x1024_0_6144)

/-- The seven chunks of the activation, and the running row maxima after each. -/
def z0 : FVec F S256x1024 .f32 := k0_pay13 I.mask k0_pay6 k0_pay7 I.hc I.w_0
@[inherit_doc z0] def g0 : FVec F S256x1024 .f32 := k0_pay15 I.z0 I.s_0 I.b_0
@[inherit_doc z0] def m0 : FVec F S256x1 .f32 := k0_pay16 (k0_pay12 (F := F)) I.z0 I.s_0 I.b_0
@[inherit_doc z0] def u1 : FVec F S256x1024 .f32 := k0_pay18 I.hs I.hc I.w_1 I.s_1 I.b_1
@[inherit_doc z0] def e1 : FVec F S256x1024 .f32 := k0_pay19 I.hs I.hc I.w_1 I.s_1 I.b_1
@[inherit_doc z0] def g1 : FVec F S256x1024 .f32 := k0_pay22 I.u1 I.e1 (k0_pay20 (F := F))
@[inherit_doc z0] def g2 : FVec F S256x1024 .f32 := k0_pay24 I.hs I.hc I.w_2 I.s_2 I.b_2
@[inherit_doc z0] def m2 : FVec F S256x1 .f32 := k0_pay25 I.hs I.m0 I.u1 I.e1 (k0_pay20 (F := F)) I.hc I.w_2 I.s_2 I.b_2
@[inherit_doc z0] def g3 : FVec F S256x1024 .f32 := k0_pay28 I.hs (k0_pay26 I.hc) I.w_3 I.s_3 I.b_3
@[inherit_doc z0] def m3 : FVec F S256x1 .f32 := k0_pay29 I.hs I.m2 (k0_pay26 I.hc) I.w_3 I.s_3 I.b_3
@[inherit_doc z0] def z4 : FVec F S256x1024 .f32 := k0_pay30 I.hs I.hc I.w_4 I.s_4 I.b_4
@[inherit_doc z0] def g4 : FVec F S256x1024 .f32 := k0_pay32 I.z4
@[inherit_doc z0] def m4 : FVec F S256x1 .f32 := k0_pay33 I.m3 I.z4
@[inherit_doc z0] def q5 : FVec F S256x1024 .f32 := k0_pay34 I.hs I.hc I.w_5 I.s_5 I.b_5
@[inherit_doc z0] def g5 : FVec F S256x1024 .f32 := k0_pay35 I.hs I.hc I.w_5 I.s_5 I.b_5
@[inherit_doc z0] def g6 : FVec F S256x1024 .f32 := k0_pay37 I.hs I.hc I.w_6 I.s_6 I.b_6
/-- The row maxima over 448, spread over the ladder's steps. -/
def amax : FVec F S256x246 .f32 := k0_pay39 I.hs I.m4 I.q5 I.hc I.w_6 I.s_6 I.b_6
/-- The scales of the activation's rows. -/
def gs : FVec F S256x1 .f32 := k0_pay41 (k0_pay38 (F := F)) I.amax
/-- The scales, as the row the kernel stores. -/
def gsr : FVec F S1x256 .f32 := k0_pay42 (k0_pay38 (F := F)) I.amax
/-- The seven stores that fill the activation scratch, the last first. -/
def gfL : List (View.Piece (Elt F) S256x7168 .f32) :=
  [⟨Rect.unit (s := S256x7168) ![0, 6144] S256x1024.size inb_S256x7168_S256x1024_0_6144, I.g6⟩,
   ⟨Rect.unit (s := S256x7168) ![0, 5120] S256x1024.size inb_S256x7168_S256x1024_0_5120, I.g5⟩,
   ⟨Rect.unit (s := S256x7168) ![0, 4096] S256x1024.size inb_S256x7168_S256x1024_0_4096, I.g4⟩,
   ⟨Rect.unit (s := S256x7168) ![0, 3072] S256x1024.size inb_S256x7168_S256x1024_0_3072, I.g3⟩,
   ⟨Rect.unit (s := S256x7168) ![0, 2048] S256x1024.size inb_S256x7168_S256x1024_0_2048, I.g2⟩,
   ⟨Rect.unit (s := S256x7168) ![0, 1024] S256x1024.size inb_S256x7168_S256x1024_0_1024, I.g1⟩,
   ⟨Rect.unit (s := S256x7168) ![0, 0] S256x1024.size inb_S256x7168_S256x1024_0_0, I.g0⟩]
/-- The activation. -/
def gf : Vec F S256x7168 .f32 := View.canon I.gfL
/-- The codes of the activation. -/
def gc : FVec F S256x7168 .fp8e4m3 := k0_pay43 (k0_pay38 (F := F)) I.amax I.gf
/-- The block's output rows. -/
def y : FVec F S256x2048 .f32 := k0_pay45 I.gs (k0_pay44 I.gc) I.x6 I.x0 I.x7 I.x8

variable (i : grid0.Coords)

/-- The tile's token sizes. -/
def row : Vec F S1x256 .f32 := View.ld I.x9 (Rect.unit (s := S2x768) (k0_off1 i) S1x256.size (k0_off1_inb i))
/-- The tile's destination slots. -/
def dst : Vec F S1x256 .i32 := View.ld I.x10 (Rect.unit (s := S2x768) (k0_off1 i) S1x256.size (k0_off1_inb i))
/-- One step of the accumulated slot sizes. -/
def sstep (s : Vec F S576x128 .f32) : FVec F S576x128 .f32 := k0_pay50 (I.row i) (I.dst i) s
/-- One step of the accumulated slot sums. -/
def xstep (x : Vec F S576x2048 .f32) : FVec F S576x2048 .f32 := k0_pay1 I.y (k0_pay49 (I.dst i)) (k0_pay51 (I.row i)) x

end Ins

/-- The first column of the accumulated slot sizes. -/
def scol (s : Vec F S576x128 .f32) : Vec F S576x1 .f32 := View.ld s (Rect.unit (s := S576x128) ![0, 0] S576x1.size inb_S576x128_S576x1_0_0)
/-- The row of slot sizes stored at the last tile. -/
def sout (s : Vec F S576x128 .f32) : FVec F S1x576 .f32 := k0_pay2 (scol s)
/-- The merged rows stored at the last tile. -/
def xout (s : Vec F S576x128 .f32) (x : Vec F S576x2048 .f32) : FVec F S1x576x2048 .bf16 := k0_pay3 (scol s) x

end Cert.KernelIdeal.Hand

end
-- ==== Proof.Hand.Kit.lean ====
/- What the hand-written run of the kernel shares: the frame claim from a run over relational proof data, the body's two
   branch conditions over the grid points, the names of the staging and scratch memrefs. -/
module

public import proofs.«01_k».proof.Proof.Gen.KernelIdeal.Frame
public import proofs.«01_k».proof.Proof.Hand.Vals
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.Pipeline.DatRel
public import Idealize.ShloMosaic.Lib.Pipeline.ArrRel
public import Idealize.ShloMosaic.Lib.Pipeline.ValueKit.Basic
public import Idealize.ShloMosaic.Lib.Pipeline.ValueKit.Acc

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1020000 in
/-- THE FRAME from a frame run: for any proof data whose arrays are the region-entry contents (`hA`), a run to
    `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 9 rfl).trans ((hA c 9).trans (V_main_arg1 m c)),
      (Pipeline.RDat.FramePost.arr_in h c 10 rfl).trans ((hA c 10).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      ((h c).2 main_arg8 (Pipeline.mem_restRefs_of main_arg8 (by decide) (by decide))).trans (V_main_arg8 m c),
      (Pipeline.RDat.FramePost.arr_in h c 7 rfl).trans ((hA c 7).trans (V_main_arg9 m c)),
      (Pipeline.RDat.FramePost.arr_in h c 8 rfl).trans ((hA c 8).trans (V_main_arg10 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 3) — by arithmetic of the point. -/
theorem hcond0_0 : ∀ t : Fin cfg0.N, cond0_0 (grid0.coords t) ↔ t.val % 3 = 0 :=
  (fun t => by
    have ht : t.val < 6 := Nat.lt_of_lt_of_eq t.isLt N_0
    have e0 : (grid0.coords t 0).val = t.val / 3 % 2 := Pipeline.Grid.coords_val t 0 (by decide) rfl
    have e1 : (grid0.coords t 1).val = t.val / 1 % 3 := Pipeline.Grid.coords_val t 1 (by decide) rfl
    simp only [cond0_0, e0, e1]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the points ≡ 2 (mod 3) — by arithmetic of the point. -/
theorem hcond0_1 : ∀ t : Fin cfg0.N, cond0_1 (grid0.coords t) ↔ t.val % 3 = 2 :=
  (fun t => by
    have ht : t.val < 6 := Nat.lt_of_lt_of_eq t.isLt N_0
    have e0 : (grid0.coords t 0).val = t.val / 3 % 2 := Pipeline.Grid.coords_val t 0 (by decide) rfl
    have e1 : (grid0.coords t 1).val = t.val / 1 % 3 := Pipeline.Grid.coords_val t 1 (by decide) rfl
    simp only [cond0_1, k0_cond2, e0, e1]
    word_cmp
   : ∀ t : Fin grid0.N, cond0_1 (grid0.coords t) ↔ t.val % 3 = 2)

/-! ## The kernel body on any staging memrefs: a subtype the run finds -/

/-- Each window's current staging memref at point `t`, spelled as the pipeline passes it (`bodyAt0`), and its wholeness. -/
abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x7168 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7168 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S7168x2048 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x768 .i32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x576x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x576 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x2048 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x7168 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x768 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S256x7168 .f32 := Memref.whole cc0_scratch0
abbrev scM0_1 : Memref sig .tc .vmem S576x2048 .f32 := Memref.whole cc0_scratch1
abbrev scM0_2 : Memref sig .tc .vmem S576x128 .f32 := Memref.whole cc0_scratch2
/-- The scratch `arg20` the kernel carries between points, as a view: what it holds is stated through it. -/
abbrev VS0_1 : View sig .tc .vmem S576x2048 .f32 := scM0_1.view
/-- The scratch `arg21` the kernel carries between points, as a view: what it holds is stated through it. -/
abbrev VS0_2 : View sig .tc .vmem S576x128 .f32 := scM0_2.view

/-- The frame kit's invariant with the scratch operands as memrefs owned at some contents (`Gen.scopedRest0_eq`, `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## Reading what the body's loads and stores leave -/

section Reads

variable {κ : Kind} {sp : Space} {s : Shape} {e : EltTy}

/-- A load through a rectangle of a whole memref held at `X` reads `X`'s part there. -/
theorem readAt_unread_ld {mr : Memref sig κ sp s e} (h : mr.IsWhole) (X : s.Idx → Elt F e) (r : Rect s) :
    View.readAt (Elt F) mr.view r.toLoadRect (h.unread X) = View.ld X r :=
  funext fun x => h.readAt_unread X r.toLoadRect x

/-- A load of the whole shape reads everything. -/
theorem ld_full {off : Fin s.rank → ℕ} (inb : ∀ a, off a + s.size a ≤ s.size a) (X : s.Idx → Elt F e) :
    View.ld X (Rect.unit off (no_index s.size) inb) = X :=
  View.ld_unit_lit inb X fun a => by have := inb a; omega

/-- A load of the whole shape after several stores reads what they leave. -/
theorem readCov_canon_full (v : View sig κ sp s e) (L : List (View.Piece (Elt F) s e)) {off : Fin s.rank → ℕ}
    (inb : ∀ a, off a + s.size a ≤ s.size a) :
    v.readCov L (Rect.unit off (no_index s.size) inb).toLoadRect = View.canon L := by
  rw [View.readCov_eq_canon']
  exact ld_full inb (View.canon L)

/-- A load of the whole shape after one store of the whole shape reads the payload. -/
theorem readCov_store_full (v : View sig κ sp s e) {off off' : Fin s.rank → ℕ} (inb : ∀ a, off a + s.size a ≤ s.size a)
    (inb' : ∀ a, off' a + s.size a ≤ s.size a) (w : s.Idx → Elt F e) (L : List (View.Piece (Elt F) s e)) :
    v.readCov ((⟨Rect.unit off' (no_index s.size) inb', w⟩ : View.Piece (Elt F) s e) :: L)
      (Rect.unit off (no_index s.size) inb).toLoadRect = w :=
  View.readCov_full v inb inb' w L

/-- After a last store of the whole shape the contents read its payload. -/
theorem read_writes_store_full (v : View sig κ sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off (no_index s.size) inb, w⟩ : View.Piece (Elt F) s e) :: L)) = w :=
  View.read_writes_full v f inb w L

/-- A load after one store of the whole shape reads the payload's part. -/
theorem readCov_ld_full (v : View sig κ sp s e) {off : Fin s.rank → ℕ} (inb : ∀ a, off a + s.size a ≤ s.size a)
    (w : (Rect.unit off s.size inb).shape.Idx → Elt F e) (L : List (View.Piece (Elt F) s e)) (r : Rect s) :
    v.readCov ((⟨Rect.unit off (no_index s.size) inb, w⟩ : View.Piece (Elt F) s e) :: L) r.toLoadRect = View.ld w r := by
  rw [View.readCov_eq_canon']
  have h : View.canon ((⟨Rect.unit off s.size inb, w⟩ : View.Piece (Elt F) s e) :: L) = w :=
    View.canon_cons_unit_lit inb w L fun a => by have := inb a; omega
  funext j
  exact congrFun h (r.idx j)

/-- One store over contents `X` leaves `X` with the payload laid over it. -/
theorem read_writes_overlay {mr : Memref sig κ sp s e} (h : mr.IsWhole) (X : s.Idx → Elt F e) (r : Rect s)
    (w : r.shape.Idx → Elt F e) :
    View.read (Elt F) mr.view (mr.view.writes (Elt F) (h.unread X) [(⟨r, w⟩ : View.Piece (Elt F) s e)]) = r.overlay X w := by
  funext j
  by_cases hj : j ∈ r.set
  · obtain ⟨x, rfl⟩ := r.exists_idx_of_mem hj
    rw [show r.idx x = r.emb x from rfl, View.read_writes_cons_emb, Rect.overlay_emb]
  · have hj' : j ∉ Finset.univ.map r.emb := by rwa [Rect.map_emb_univ]
    rw [View.writes_cons, View.read_slice_write_of_not_mem r _ _ _ hj', View.writes_nil, h.read_unread,
      Rect.overlay_of_not_mem r _ _ hj]

end Reads

end Cert.KernelIdeal.Hand

end
-- ==== Proof.Hand.RunA.lean ====
/- The body at a batch's first tile: the accumulators start from zero. -/
module

public import proofs.«01_k».proof.Proof.Hand.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a batch's first tile: the accumulators start from zero. -/
theorem run_A (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x7168 .fp8e4m3) (harg5 : arg5.IsWhole) (arg6 : Memref sig .tc .vmem S1x7168 .f32) (harg6 : arg6.IsWhole) (arg7 : Memref sig .tc .vmem S1x7168 .f32) (harg7 : arg7.IsWhole) (arg8 : Memref sig .tc .vmem S7168x2048 .fp8e4m3) (harg8 : arg8.IsWhole) (arg9 : Memref sig .tc .vmem S1x2048 .f32) (harg9 : arg9.IsWhole) (arg10 : Memref sig .tc .vmem S1x2048 .f32) (harg10 : arg10.IsWhole) (arg11 : Memref sig .tc .vmem S2x768 .f32) (harg11 : arg11.IsWhole) (arg12 : Memref sig .tc .vmem S2x768 .i32) (harg12 : arg12.IsWhole) (arg13 : Memref sig .tc .vmem S1x576x2048 .bf16) (harg13 : arg13.IsWhole) (arg14 : Memref sig .tc .vmem S2x576 .f32) (harg14 : arg14.IsWhole) (arg15 : Memref sig .tc .vmem S256x2048 .fp8e4m3) (harg15 : arg15.IsWhole) (arg16 : Memref sig .tc .vmem S2x768 .f32) (harg16 : arg16.IsWhole) (arg17 : Memref sig .tc .vmem S256x7168 .fp8e4m3) (harg17 : arg17.IsWhole) (arg18 : Memref sig .tc .vmem S2x768 .f32) (harg18 : arg18.IsWhole) (arg19 : Memref sig .tc .vmem S256x7168 .f32) (harg19 : arg19.IsWhole) (arg20 : Memref sig .tc .vmem S576x2048 .f32) (harg20 : arg20.IsWhole) (arg21 : Memref sig .tc .vmem S576x128 .f32) (harg21 : arg21.IsWhole) (hc0 : cond0_0 i) (hc1 : ¬cond0_1 i)
    (I : Ins F) (y11 : Vec F S1x576x2048 .bf16) (y12 : Vec F S2x576 .f32) (y13 : Vec F S256x2048 .fp8e4m3) (y14 : Vec F S2x768 .f32) (y15 : Vec F S256x7168 .fp8e4m3) (y16 : Vec F S2x768 .f32) (xs1 : Vec F S576x2048 .f32) (xs2 : Vec F S576x128 .f32) (E : Set ℕ) (K : PUnit → sProp 𝕄) :
    iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ (∃ d, owns (c : Thread nD τ) arg19 fullShare d) ∗ owns (c : Thread nD τ) arg20 fullShare xs1 ∗ owns (c : Thread nD τ) arg21 fullShare xs2
      ∗ (iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare y11 ∗ owns (c : Thread nD τ) arg14 fullShare y12 ∗ owns (c : Thread nD τ) arg15 fullShare I.hc ∗ owns (c : Thread nD τ) arg16 fullShare ((Rect.unit (s := S2x768) (k0_off1 i) S1x256.size (k0_off1_inb i)).overlay y14 I.hsr) ∗ owns (c : Thread nD τ) arg17 fullShare I.gc ∗ owns (c : Thread nD τ) arg18 fullShare ((Rect.unit (s := S2x768) (k0_off1 i) S1x256.size (k0_off1_inb i)).overlay y16 I.gsr) ∗ (∃ d, owns (c : Thread nD τ) arg19 fullShare d) ∗ owns (c : Thread nD τ) arg20 fullShare (I.xstep i (k0_pay46 (F := F))) ∗ owns (c : Thread nD τ) arg21 fullShare (I.sstep i (k0_pay47 (F := F)))) -∗ K ⟨⟩))
    ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hfs1; obtain rfl := harg21.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; clear * -
    exact harg13.read_unread _
  isplitl [H12]
  · iexists _; isplitr; swap; · iexact H12
    ipureintro; clear * -
    exact harg14.read_unread _
  isplitl [H13]
  · iexists _; isplitr; swap; · iexact H13
    ipureintro; clear * -
    delta run_A.sl.H13_1; delta run_A.sl.r_1; delta run_A.sl.r
    simp only [readAt_unread_ld, ld_full, readCov_store_full, read_writes_store_full]
    rfl
  isplitl [H14]
  · iexists _; isplitr; swap; · iexact H14
    ipureintro; clear * -
    rw [read_writes_overlay]
    delta run_A.sl.r_1
    simp only [readAt_unread_ld, ld_full, readCov_store_full, read_writes_store_full]
    rfl
  isplitl [H15]
  · iexists _; isplitr; swap; · iexact H15
    ipureintro; clear * -
    delta run_A.sl.H15_1
    rw [read_writes_store_full]
    delta run_A.sl.v296
    rw [readCov_canon_full]
    delta run_A.sl.HS0_7
    (try delta run_A.sl.r_14); (try delta run_A.sl.r_13); (try delta run_A.sl.r_12); (try delta run_A.sl.r_11); (try delta run_A.sl.r_10); (try delta run_A.sl.r_9); (try delta run_A.sl.r_10); (try delta run_A.sl.r_8); (try delta run_A.sl.r_7); (try delta run_A.sl.r_6); (try delta run_A.sl.r_5); (try delta run_A.sl.r_4); (try delta run_A.sl.r_3); (try delta run_A.sl.r_2); (try delta run_A.sl.r_1); (try delta run_A.sl.r); (try delta run_A.sl.v72); (try delta run_A.sl.H13_1); (try delta run_A.sl.r_1); (try delta run_A.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [H16]
  · iexists _; isplitr; swap; · iexact H16
    ipureintro; clear * -
    rw [read_writes_overlay]
    (try delta run_A.sl.r_14); (try delta run_A.sl.r_13); (try delta run_A.sl.r_12); (try delta run_A.sl.r_11); (try delta run_A.sl.r_10); (try delta run_A.sl.r_9); (try delta run_A.sl.r_10); (try delta run_A.sl.r_8); (try delta run_A.sl.r_7); (try delta run_A.sl.r_6); (try delta run_A.sl.r_5); (try delta run_A.sl.r_4); (try delta run_A.sl.r_3); (try delta run_A.sl.r_2); (try delta run_A.sl.r_1); (try delta run_A.sl.r); (try delta run_A.sl.v72); (try delta run_A.sl.H13_1); (try delta run_A.sl.r_1); (try delta run_A.sl.r)
    simp only [Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [HS0]
  · iexists _, _; isplitr; swap; · iexact HS0
    ipureintro; rfl
  isplitl [HS1]
  · iexists _; isplitr; swap; · iexact HS1
    ipureintro; clear * -
    (try delta run_A.sl.HS1_2); (try delta run_A.sl.v358); (try delta run_A.sl.HS1_1)
    (try delta run_A.sl.HS1_1); (try delta run_A.sl.r_17); (try delta run_A.sl.r_15); (try delta run_A.sl.r_16); (try delta run_A.sl.r_18); (try delta run_A.sl.r_19); (try delta run_A.sl.v305); (try delta run_A.sl.H15_1)
    simp only [readCov_store_full, read_writes_store_full]
    delta run_A.sl.v296
    rw [readCov_canon_full]
    delta run_A.sl.HS0_7
    (try delta run_A.sl.r_14); (try delta run_A.sl.r_13); (try delta run_A.sl.r_12); (try delta run_A.sl.r_11); (try delta run_A.sl.r_10); (try delta run_A.sl.r_9); (try delta run_A.sl.r_10); (try delta run_A.sl.r_8); (try delta run_A.sl.r_7); (try delta run_A.sl.r_6); (try delta run_A.sl.r_5); (try delta run_A.sl.r_4); (try delta run_A.sl.r_3); (try delta run_A.sl.r_2); (try delta run_A.sl.r_1); (try delta run_A.sl.r); (try delta run_A.sl.v72); (try delta run_A.sl.H13_1); (try delta run_A.sl.r_1); (try delta run_A.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
    rfl
  iexists _; isplitr; swap; · iexact HS2
  ipureintro; clear * -
  (try delta run_A.sl.HS2_2); (try delta run_A.sl.v336); (try delta run_A.sl.HS2_1)
  simp only [readAt_unread_ld, ld_full, readCov_store_full, read_writes_store_full]
  rfl

end Cert.KernelIdeal.Hand

end
-- ==== Proof.Hand.RunB.lean ====
/- The body at a batch's middle tile. -/
module

public import proofs.«01_k».proof.Proof.Hand.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a batch's middle tile. -/
theorem run_B (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x7168 .fp8e4m3) (harg5 : arg5.IsWhole) (arg6 : Memref sig .tc .vmem S1x7168 .f32) (harg6 : arg6.IsWhole) (arg7 : Memref sig .tc .vmem S1x7168 .f32) (harg7 : arg7.IsWhole) (arg8 : Memref sig .tc .vmem S7168x2048 .fp8e4m3) (harg8 : arg8.IsWhole) (arg9 : Memref sig .tc .vmem S1x2048 .f32) (harg9 : arg9.IsWhole) (arg10 : Memref sig .tc .vmem S1x2048 .f32) (harg10 : arg10.IsWhole) (arg11 : Memref sig .tc .vmem S2x768 .f32) (harg11 : arg11.IsWhole) (arg12 : Memref sig .tc .vmem S2x768 .i32) (harg12 : arg12.IsWhole) (arg13 : Memref sig .tc .vmem S1x576x2048 .bf16) (harg13 : arg13.IsWhole) (arg14 : Memref sig .tc .vmem S2x576 .f32) (harg14 : arg14.IsWhole) (arg15 : Memref sig .tc .vmem S256x2048 .fp8e4m3) (harg15 : arg15.IsWhole) (arg16 : Memref sig .tc .vmem S2x768 .f32) (harg16 : arg16.IsWhole) (arg17 : Memref sig .tc .vmem S256x7168 .fp8e4m3) (harg17 : arg17.IsWhole) (arg18 : Memref sig .tc .vmem S2x768 .f32) (harg18 : arg18.IsWhole) (arg19 : Memref sig .tc .vmem S256x7168 .f32) (harg19 : arg19.IsWhole) (arg20 : Memref sig .tc .vmem S576x2048 .f32) (harg20 : arg20.IsWhole) (arg21 : Memref sig .tc .vmem S576x128 .f32) (harg21 : arg21.IsWhole) (hc0 : ¬cond0_0 i) (hc1 : ¬cond0_1 i)
    (I : Ins F) (y11 : Vec F S1x576x2048 .bf16) (y12 : Vec F S2x576 .f32) (y13 : Vec F S256x2048 .fp8e4m3) (y14 : Vec F S2x768 .f32) (y15 : Vec F S256x7168 .fp8e4m3) (y16 : Vec F S2x768 .f32) (xs1 : Vec F S576x2048 .f32) (xs2 : Vec F S576x128 .f32) (E : Set ℕ) (K : PUnit → sProp 𝕄) :
    iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ (∃ d, owns (c : Thread nD τ) arg19 fullShare d) ∗ owns (c : Thread nD τ) arg20 fullShare xs1 ∗ owns (c : Thread nD τ) arg21 fullShare xs2
      ∗ (iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare y11 ∗ owns (c : Thread nD τ) arg14 fullShare y12 ∗ owns (c : Thread nD τ) arg15 fullShare I.hc ∗ owns (c : Thread nD τ) arg16 fullShare ((Rect.unit (s := S2x768) (k0_off1 i) S1x256.size (k0_off1_inb i)).overlay y14 I.hsr) ∗ owns (c : Thread nD τ) arg17 fullShare I.gc ∗ owns (c : Thread nD τ) arg18 fullShare ((Rect.unit (s := S2x768) (k0_off1 i) S1x256.size (k0_off1_inb i)).overlay y16 I.gsr) ∗ (∃ d, owns (c : Thread nD τ) arg19 fullShare d) ∗ owns (c : Thread nD τ) arg20 fullShare (I.xstep i xs1) ∗ owns (c : Thread nD τ) arg21 fullShare (I.sstep i xs2)) -∗ K ⟨⟩))
    ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hfs1; obtain rfl := harg21.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; clear * -
    exact harg13.read_unread _
  isplitl [H12]
  · iexists _; isplitr; swap; · iexact H12
    ipureintro; clear * -
    exact harg14.read_unread _
  isplitl [H13]
  · iexists _; isplitr; swap; · iexact H13
    ipureintro; clear * -
    delta run_B.sl.H13_1; delta run_B.sl.r_1; delta run_B.sl.r
    simp only [readAt_unread_ld, ld_full, readCov_store_full, read_writes_store_full]
    rfl
  isplitl [H14]
  · iexists _; isplitr; swap; · iexact H14
    ipureintro; clear * -
    rw [read_writes_overlay]
    delta run_B.sl.r_1
    simp only [readAt_unread_ld, ld_full, readCov_store_full, read_writes_store_full]
    rfl
  isplitl [H15]
  · iexists _; isplitr; swap; · iexact H15
    ipureintro; clear * -
    delta run_B.sl.H15_1
    rw [read_writes_store_full]
    delta run_B.sl.v296
    rw [readCov_canon_full]
    delta run_B.sl.HS0_7
    (try delta run_B.sl.r_14); (try delta run_B.sl.r_13); (try delta run_B.sl.r_12); (try delta run_B.sl.r_11); (try delta run_B.sl.r_10); (try delta run_B.sl.r_9); (try delta run_B.sl.r_10); (try delta run_B.sl.r_8); (try delta run_B.sl.r_7); (try delta run_B.sl.r_6); (try delta run_B.sl.r_5); (try delta run_B.sl.r_4); (try delta run_B.sl.r_3); (try delta run_B.sl.r_2); (try delta run_B.sl.r_1); (try delta run_B.sl.r); (try delta run_B.sl.v72); (try delta run_B.sl.H13_1); (try delta run_B.sl.r_1); (try delta run_B.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [H16]
  · iexists _; isplitr; swap; · iexact H16
    ipureintro; clear * -
    rw [read_writes_overlay]
    (try delta run_B.sl.r_14); (try delta run_B.sl.r_13); (try delta run_B.sl.r_12); (try delta run_B.sl.r_11); (try delta run_B.sl.r_10); (try delta run_B.sl.r_9); (try delta run_B.sl.r_10); (try delta run_B.sl.r_8); (try delta run_B.sl.r_7); (try delta run_B.sl.r_6); (try delta run_B.sl.r_5); (try delta run_B.sl.r_4); (try delta run_B.sl.r_3); (try delta run_B.sl.r_2); (try delta run_B.sl.r_1); (try delta run_B.sl.r); (try delta run_B.sl.v72); (try delta run_B.sl.H13_1); (try delta run_B.sl.r_1); (try delta run_B.sl.r)
    simp only [Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [HS0]
  · iexists _, _; isplitr; swap; · iexact HS0
    ipureintro; rfl
  isplitl [HS1]
  · iexists _; isplitr; swap; · iexact HS1
    ipureintro; clear * -
    skip
    (try delta run_B.sl.HS1_1); (try delta run_B.sl.r_17); (try delta run_B.sl.r_15); (try delta run_B.sl.r_16); (try delta run_B.sl.r_18); (try delta run_B.sl.r_19); (try delta run_B.sl.v305); (try delta run_B.sl.H15_1)
    simp only [readCov_store_full, read_writes_store_full]
    delta run_B.sl.v296
    rw [readCov_canon_full]
    delta run_B.sl.HS0_7
    (try delta run_B.sl.r_14); (try delta run_B.sl.r_13); (try delta run_B.sl.r_12); (try delta run_B.sl.r_11); (try delta run_B.sl.r_10); (try delta run_B.sl.r_9); (try delta run_B.sl.r_10); (try delta run_B.sl.r_8); (try delta run_B.sl.r_7); (try delta run_B.sl.r_6); (try delta run_B.sl.r_5); (try delta run_B.sl.r_4); (try delta run_B.sl.r_3); (try delta run_B.sl.r_2); (try delta run_B.sl.r_1); (try delta run_B.sl.r); (try delta run_B.sl.v72); (try delta run_B.sl.H13_1); (try delta run_B.sl.r_1); (try delta run_B.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
    rfl
  iexists _; isplitr; swap; · iexact HS2
  ipureintro; clear * -
  (try delta run_B.sl.HS2_2); (try delta run_B.sl.v336); (try delta run_B.sl.HS2_1)
  simp only [readAt_unread_ld, ld_full, readCov_store_full, read_writes_store_full]
  rfl

end Cert.KernelIdeal.Hand

end
-- ==== Proof.Hand.RunC.lean ====
/- The body at a batch's last tile: the merged rows and their sizes are stored too. -/
module

public import proofs.«01_k».proof.Proof.Hand.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 2000000 in
/-- The body at a batch's last tile: the merged rows and their sizes are stored too. -/
theorem run_C (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S2048x7168 .fp8e4m3) (harg5 : arg5.IsWhole) (arg6 : Memref sig .tc .vmem S1x7168 .f32) (harg6 : arg6.IsWhole) (arg7 : Memref sig .tc .vmem S1x7168 .f32) (harg7 : arg7.IsWhole) (arg8 : Memref sig .tc .vmem S7168x2048 .fp8e4m3) (harg8 : arg8.IsWhole) (arg9 : Memref sig .tc .vmem S1x2048 .f32) (harg9 : arg9.IsWhole) (arg10 : Memref sig .tc .vmem S1x2048 .f32) (harg10 : arg10.IsWhole) (arg11 : Memref sig .tc .vmem S2x768 .f32) (harg11 : arg11.IsWhole) (arg12 : Memref sig .tc .vmem S2x768 .i32) (harg12 : arg12.IsWhole) (arg13 : Memref sig .tc .vmem S1x576x2048 .bf16) (harg13 : arg13.IsWhole) (arg14 : Memref sig .tc .vmem S2x576 .f32) (harg14 : arg14.IsWhole) (arg15 : Memref sig .tc .vmem S256x2048 .fp8e4m3) (harg15 : arg15.IsWhole) (arg16 : Memref sig .tc .vmem S2x768 .f32) (harg16 : arg16.IsWhole) (arg17 : Memref sig .tc .vmem S256x7168 .fp8e4m3) (harg17 : arg17.IsWhole) (arg18 : Memref sig .tc .vmem S2x768 .f32) (harg18 : arg18.IsWhole) (arg19 : Memref sig .tc .vmem S256x7168 .f32) (harg19 : arg19.IsWhole) (arg20 : Memref sig .tc .vmem S576x2048 .f32) (harg20 : arg20.IsWhole) (arg21 : Memref sig .tc .vmem S576x128 .f32) (harg21 : arg21.IsWhole) (hc0 : ¬cond0_0 i) (hc1 : cond0_1 i)
    (I : Ins F) (y11 : Vec F S1x576x2048 .bf16) (y12 : Vec F S2x576 .f32) (y13 : Vec F S256x2048 .fp8e4m3) (y14 : Vec F S2x768 .f32) (y15 : Vec F S256x7168 .fp8e4m3) (y16 : Vec F S2x768 .f32) (xs1 : Vec F S576x2048 .f32) (xs2 : Vec F S576x128 .f32) (E : Set ℕ) (K : PUnit → sProp 𝕄) :
    iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare y16 ∗ (∃ d, owns (c : Thread nD τ) arg19 fullShare d) ∗ owns (c : Thread nD τ) arg20 fullShare xs1 ∗ owns (c : Thread nD τ) arg21 fullShare xs2
      ∗ (iprop(owns (c : Thread nD τ) arg2 fullShare I.x0 ∗ owns (c : Thread nD τ) arg3 fullShare I.x1 ∗ owns (c : Thread nD τ) arg4 fullShare I.x2 ∗ owns (c : Thread nD τ) arg5 fullShare I.x3 ∗ owns (c : Thread nD τ) arg6 fullShare I.x4 ∗ owns (c : Thread nD τ) arg7 fullShare I.x5 ∗ owns (c : Thread nD τ) arg8 fullShare I.x6 ∗ owns (c : Thread nD τ) arg9 fullShare I.x7 ∗ owns (c : Thread nD τ) arg10 fullShare I.x8 ∗ owns (c : Thread nD τ) arg11 fullShare I.x9 ∗ owns (c : Thread nD τ) arg12 fullShare I.x10 ∗ owns (c : Thread nD τ) arg13 fullShare (xout (I.sstep i xs2) (I.xstep i xs1)) ∗ owns (c : Thread nD τ) arg14 fullShare ((Rect.unit (s := S2x576) (k0_off2 i) S1x576.size (k0_off2_inb i hc1)).overlay y12 (sout (I.sstep i xs2))) ∗ owns (c : Thread nD τ) arg15 fullShare I.hc ∗ owns (c : Thread nD τ) arg16 fullShare ((Rect.unit (s := S2x768) (k0_off1 i) S1x256.size (k0_off1_inb i)).overlay y14 I.hsr) ∗ owns (c : Thread nD τ) arg17 fullShare I.gc ∗ owns (c : Thread nD τ) arg18 fullShare ((Rect.unit (s := S2x768) (k0_off1 i) S1x256.size (k0_off1_inb i)).overlay y16 I.gsr) ∗ (∃ d, owns (c : Thread nD τ) arg19 fullShare d) ∗ owns (c : Thread nD τ) arg20 fullShare (I.xstep i xs1) ∗ owns (c : Thread nD τ) arg21 fullShare (I.sstep i xs2)) -∗ K ⟨⟩))
    ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hfs1; obtain rfl := harg21.eq_unread hfs2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; swap; · iexact H11
    ipureintro; clear * -
    (try delta run_C.sl.H11_1)
    delta run_C.sl.v379; delta run_C.sl.HS1_1; delta run_C.sl.r_17; delta run_C.sl.r_15; delta run_C.sl.r_16; delta run_C.sl.r_18; delta run_C.sl.r_19; delta run_C.sl.v305; delta run_C.sl.H15_1; delta run_C.sl.v371; delta run_C.sl.HS2_1
    simp only [readCov_store_full, read_writes_store_full]
    unfold xout
    refine congrArg₂ k0_pay3 ?_ ?_
    · simp only [readAt_unread_ld, ld_full, readCov_ld_full, readCov_store_full, read_writes_store_full]
      rfl
    delta run_C.sl.v296
    rw [readCov_canon_full]
    delta run_C.sl.HS0_7
    (try delta run_C.sl.r_14); (try delta run_C.sl.r_13); (try delta run_C.sl.r_12); (try delta run_C.sl.r_11); (try delta run_C.sl.r_10); (try delta run_C.sl.r_9); (try delta run_C.sl.r_10); (try delta run_C.sl.r_8); (try delta run_C.sl.r_7); (try delta run_C.sl.r_6); (try delta run_C.sl.r_5); (try delta run_C.sl.r_4); (try delta run_C.sl.r_3); (try delta run_C.sl.r_2); (try delta run_C.sl.r_1); (try delta run_C.sl.r); (try delta run_C.sl.v72); (try delta run_C.sl.H13_1); (try delta run_C.sl.r_1); (try delta run_C.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
    rfl
  isplitl [H12]
  · iexists _; isplitr; swap; · iexact H12
    ipureintro; clear * -
    rw [read_writes_overlay]
    delta run_C.sl.v371; delta run_C.sl.HS2_1
    simp only [readAt_unread_ld, ld_full, readCov_ld_full]
    rfl
  isplitl [H13]
  · iexists _; isplitr; swap; · iexact H13
    ipureintro; clear * -
    delta run_C.sl.H13_1; delta run_C.sl.r_1; delta run_C.sl.r
    simp only [readAt_unread_ld, ld_full, readCov_store_full, read_writes_store_full]
    rfl
  isplitl [H14]
  · iexists _; isplitr; swap; · iexact H14
    ipureintro; clear * -
    rw [read_writes_overlay]
    delta run_C.sl.r_1
    simp only [readAt_unread_ld, ld_full, readCov_store_full, read_writes_store_full]
    rfl
  isplitl [H15]
  · iexists _; isplitr; swap; · iexact H15
    ipureintro; clear * -
    delta run_C.sl.H15_1
    rw [read_writes_store_full]
    delta run_C.sl.v296
    rw [readCov_canon_full]
    delta run_C.sl.HS0_7
    (try delta run_C.sl.r_14); (try delta run_C.sl.r_13); (try delta run_C.sl.r_12); (try delta run_C.sl.r_11); (try delta run_C.sl.r_10); (try delta run_C.sl.r_9); (try delta run_C.sl.r_10); (try delta run_C.sl.r_8); (try delta run_C.sl.r_7); (try delta run_C.sl.r_6); (try delta run_C.sl.r_5); (try delta run_C.sl.r_4); (try delta run_C.sl.r_3); (try delta run_C.sl.r_2); (try delta run_C.sl.r_1); (try delta run_C.sl.r); (try delta run_C.sl.v72); (try delta run_C.sl.H13_1); (try delta run_C.sl.r_1); (try delta run_C.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [H16]
  · iexists _; isplitr; swap; · iexact H16
    ipureintro; clear * -
    rw [read_writes_overlay]
    (try delta run_C.sl.r_14); (try delta run_C.sl.r_13); (try delta run_C.sl.r_12); (try delta run_C.sl.r_11); (try delta run_C.sl.r_10); (try delta run_C.sl.r_9); (try delta run_C.sl.r_10); (try delta run_C.sl.r_8); (try delta run_C.sl.r_7); (try delta run_C.sl.r_6); (try delta run_C.sl.r_5); (try delta run_C.sl.r_4); (try delta run_C.sl.r_3); (try delta run_C.sl.r_2); (try delta run_C.sl.r_1); (try delta run_C.sl.r); (try delta run_C.sl.v72); (try delta run_C.sl.H13_1); (try delta run_C.sl.r_1); (try delta run_C.sl.r)
    simp only [Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
  isplitl [HS0]
  · iexists _, _; isplitr; swap; · iexact HS0
    ipureintro; rfl
  isplitl [HS1]
  · iexists _; isplitr; swap; · iexact HS1
    ipureintro; clear * -
    skip
    (try delta run_C.sl.HS1_1); (try delta run_C.sl.r_17); (try delta run_C.sl.r_15); (try delta run_C.sl.r_16); (try delta run_C.sl.r_18); (try delta run_C.sl.r_19); (try delta run_C.sl.v305); (try delta run_C.sl.H15_1)
    simp only [readCov_store_full, read_writes_store_full]
    delta run_C.sl.v296
    rw [readCov_canon_full]
    delta run_C.sl.HS0_7
    (try delta run_C.sl.r_14); (try delta run_C.sl.r_13); (try delta run_C.sl.r_12); (try delta run_C.sl.r_11); (try delta run_C.sl.r_10); (try delta run_C.sl.r_9); (try delta run_C.sl.r_10); (try delta run_C.sl.r_8); (try delta run_C.sl.r_7); (try delta run_C.sl.r_6); (try delta run_C.sl.r_5); (try delta run_C.sl.r_4); (try delta run_C.sl.r_3); (try delta run_C.sl.r_2); (try delta run_C.sl.r_1); (try delta run_C.sl.r); (try delta run_C.sl.v72); (try delta run_C.sl.H13_1); (try delta run_C.sl.r_1); (try delta run_C.sl.r)
    simp only [Ins.xstep, Ins.y, Ins.gc, Ins.gf, Ins.gfL, Ins.gsr, Ins.gs, Ins.amax, Ins.g0, Ins.g1, Ins.g2, Ins.g3, Ins.g4, Ins.g5, Ins.g6, Ins.q5, Ins.z4, Ins.m4, Ins.m3, Ins.m2, Ins.e1, Ins.u1, Ins.m0, Ins.z0, Ins.hc, Ins.hs, Ins.h, Ins.mask, Ins.w_0, Ins.w_1, Ins.w_2, Ins.w_3, Ins.w_4, Ins.w_5, Ins.w_6, Ins.s_0, Ins.s_1, Ins.s_2, Ins.s_3, Ins.s_4, Ins.s_5, Ins.s_6, Ins.b_0, Ins.b_1, Ins.b_2, Ins.b_3, Ins.b_4, Ins.b_5, Ins.b_6, readAt_unread_ld, ld_full, readCov_store_full, read_writes_store_full]
    rfl
  iexists _; isplitr; swap; · iexact HS2
  ipureintro; clear * -
  (try delta run_C.sl.HS2_2); (try delta run_C.sl.v336); (try delta run_C.sl.HS2_1)
  simp only [readAt_unread_ld, ld_full, readCov_store_full, read_writes_store_full]
  rfl

end Cert.KernelIdeal.Hand

end
-- ==== Proof.Hand.Data.lean ====
/- The proof data of the hand-written run: at each grid point the blocks of the inputs, what the carried scratch holds after
   it, and what the output blocks are known to hold; the body's obligation from the three runs of the body. -/
module

public import proofs.«01_k».proof.Proof.Hand.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points compute -/

/-- The inputs' blocks at a point. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The accumulated slot sums after `n` points. -/
def xacc (c : Dev nD) : ℕ → FVec F S576x2048 .f32
  | 0 => k0_pay46
  | n + 1 => if h : n < cfg0.N then
      (insAt m c ⟨n, h⟩).xstep (grid0.coords ⟨n, h⟩) (if n % 3 = 0 then k0_pay46 else xacc c n)
    else xacc c n

/-- The accumulated slot sizes after `n` points. -/
def sacc (c : Dev nD) : ℕ → FVec F S576x128 .f32
  | 0 => k0_pay47
  | n + 1 => if h : n < cfg0.N then
      (insAt m c ⟨n, h⟩).sstep (grid0.coords ⟨n, h⟩) (if n % 3 = 0 then k0_pay47 else sacc c n)
    else sacc c n

theorem xacc_succ (c : Dev nD) (t : Fin cfg0.N) :
    xacc m c (t.val + 1) = (insAt m c t).xstep (grid0.coords t) (if t.val % 3 = 0 then k0_pay46 else xacc m c t.val) := by
  rw [xacc, dif_pos t.isLt]

theorem sacc_succ (c : Dev nD) (t : Fin cfg0.N) :
    sacc m c (t.val + 1) = (insAt m c t).sstep (grid0.coords t) (if t.val % 3 = 0 then k0_pay47 else sacc m c t.val) := by
  rw [sacc, dif_pos t.isLt]

/-- A point's part of the two rows of 768 token scales. -/
abbrev rect1 (t : Fin cfg0.N) : Rect S2x768 := Rect.unit (s := S2x768) (k0_off1 (grid0.coords t)) S1x256.size (k0_off1_inb (grid0.coords t))
/-- A batch's row of the slot sizes. -/
abbrev rect2 (t : Fin cfg0.N) (h : t.val % 3 = 2) : Rect S2x576 :=
  Rect.unit (s := S2x576) (k0_off2 (grid0.coords t)) S1x576.size (k0_off2_inb (grid0.coords t) ((hcond0_1 t).mpr h))

theorem off1_0 : ∀ t : Fin cfg0.N, k0_off1 (grid0.coords t) 0 = t.val / 3 :=
  (fun t => by
    have ht : t.val < 6 := Nat.lt_of_lt_of_eq t.isLt N_0
    have e0 : (grid0.coords t 0).val = t.val / 3 % 2 := Pipeline.Grid.coords_val t 0 (by decide) rfl
    simp only [k0_off1, e0, Matrix.cons_val_zero, Scalar.indexCast, BitVec.toNat_ofNat]
    omega
   : ∀ t : Fin grid0.N, k0_off1 (grid0.coords t) 0 = t.val / 3)

theorem off1_1 : ∀ t : Fin cfg0.N, k0_off1 (grid0.coords t) 1 = t.val % 3 * 256 :=
  (fun t => by
    have ht : t.val < 6 := Nat.lt_of_lt_of_eq t.isLt N_0
    have e1 : (grid0.coords t 1).val = t.val / 1 % 3 := Pipeline.Grid.coords_val t 1 (by decide) rfl
    simp only [k0_off1, e1, Matrix.cons_val_one, Matrix.cons_val_fin_one, Scalar.indexCast, Scalar.muli, IntOp.muli, BitVec.toNat_mul, BitVec.toNat_ofNat]
    omega
   : ∀ t : Fin grid0.N, k0_off1 (grid0.coords t) 1 = t.val % 3 * 256)

theorem off2_0 : ∀ t : Fin cfg0.N, k0_off2 (grid0.coords t) 0 = t.val / 3 :=
  (fun t => by
    have ht : t.val < 6 := Nat.lt_of_lt_of_eq t.isLt N_0
    have e0 : (grid0.coords t 0).val = t.val / 3 % 2 := Pipeline.Grid.coords_val t 0 (by decide) rfl
    simp only [k0_off2, e0, Matrix.cons_val_zero, Scalar.indexCast, BitVec.toNat_ofNat]
    omega
   : ∀ t : Fin grid0.N, k0_off2 (grid0.coords t) 0 = t.val / 3)

/-- The first `n` points' parts of a two-row block hold what those points stored there. -/
def Strip (G : (u : Fin cfg0.N) → Vec F S1x256 .f32) (n : ℕ) (Y : Vec F S2x768 .f32) : Prop :=
  ∀ u : Fin cfg0.N, u.val < n → ∀ j : S1x256.Idx, Y ((rect1 u).emb j) = G u j

/-- The rows of the batches ended within the first `n` points hold what their last points stored there. -/
def Rows (G : (u : Fin cfg0.N) → Vec F S1x576 .f32) (n : ℕ) (Y : Vec F S2x576 .f32) : Prop :=
  ∀ u : Fin cfg0.N, u.val < n → ∀ h : u.val % 3 = 2, ∀ j : S1x576.Idx, Y ((rect2 u h).emb j) = G u j

theorem rect1_ne {t u : Fin cfg0.N} (h : u.val < t.val) (j : S1x256.Idx) : (rect1 u).emb j ∉ (rect1 t).set := by
  intro hm
  obtain ⟨x, hx⟩ := (rect1 t).exists_idx_of_mem hm
  have ht : t.val < 6 := Nat.lt_of_lt_of_eq t.isLt N_0
  have h0 := congrArg (fun i => (i 0).val) hx
  have h1 := congrArg (fun i => (i 1).val) hx
  simp only [LoadRect.idx, Rect.emb, Rect.unit, Function.Embedding.coeFn_mk, off1_0, off1_1] at h0 h1
  have x0 : (x 0).val < 1 := (x 0).isLt
  have x1 : (x 1).val < 256 := (x 1).isLt
  have j0 : (j 0).val < 1 := (j 0).isLt
  have j1 : (j 1).val < 256 := (j 1).isLt
  omega

theorem rect2_ne {t u : Fin cfg0.N} (ht2 : t.val % 3 = 2) (hu2 : u.val % 3 = 2) (h : u.val < t.val) (j : S1x576.Idx) :
    (rect2 u hu2).emb j ∉ (rect2 t ht2).set := by
  intro hm
  obtain ⟨x, hx⟩ := (rect2 t ht2).exists_idx_of_mem hm
  have ht : t.val < 6 := Nat.lt_of_lt_of_eq t.isLt N_0
  have h0 := congrArg (fun i => (i 0).val) hx
  simp only [LoadRect.idx, Rect.emb, Rect.unit, Function.Embedding.coeFn_mk, off2_0] at h0
  have x0 : (x 0).val < 1 := (x 0).isLt
  have j0 : (j 0).val < 1 := (j 0).isLt
  omega

theorem Strip.step {G : (u : Fin cfg0.N) → Vec F S1x256 .f32} {t : Fin cfg0.N} {Y : Vec F S2x768 .f32} (h : Strip G t.val Y) :
    Strip G (t.val + 1) ((rect1 t).overlay Y (G t)) := fun u hu j => by
  rcases Nat.lt_or_eq_of_le (Nat.le_of_lt_succ hu) with hlt | heq
  · exact (Rect.overlay_of_not_mem (rect1 t) Y (G t) (rect1_ne hlt j)).trans (h u hlt j)
  · obtain rfl : u = t := Fin.ext heq
    exact Rect.overlay_emb (rect1 u) Y (G u) j

theorem Rows.step {G : (u : Fin cfg0.N) → Vec F S1x576 .f32} {t : Fin cfg0.N} (ht : t.val % 3 = 2) {Y : Vec F S2x576 .f32} (h : Rows G t.val Y) :
    Rows G (t.val + 1) ((rect2 t ht).overlay Y (G t)) := fun u hu hu2 j => by
  rcases Nat.lt_or_eq_of_le (Nat.le_of_lt_succ hu) with hlt | heq
  · exact (Rect.overlay_of_not_mem (rect2 t ht) Y (G t) (rect2_ne ht hu2 hlt j)).trans (h u hlt hu2 j)
  · obtain rfl : u = t := Fin.ext heq
    exact Rect.overlay_emb (rect2 u ht) Y (G u) j

theorem Rows.skip {G : (u : Fin cfg0.N) → Vec F S1x576 .f32} {t : Fin cfg0.N} (ht : ¬t.val % 3 = 2) {Y : Vec F S2x576 .f32} (h : Rows G t.val Y) :
    Rows G (t.val + 1) Y := fun u hu hu2 j => by
  rcases Nat.lt_or_eq_of_le (Nat.le_of_lt_succ hu) with hlt | heq
  · exact h u hlt hu2 j
  · obtain rfl : u = t := Fin.ext heq
    exact absurd hu2 ht

/-- The scales the points store. -/
abbrev hsOf (c : Dev nD) (u : Fin cfg0.N) : Vec F S1x256 .f32 := (insAt m c u).hsr
/-- The activation scales the points store. -/
abbrev gsOf (c : Dev nD) (u : Fin cfg0.N) : Vec F S1x256 .f32 := (insAt m c u).gsr
/-- The slot sizes the batches' last points store. -/
abbrev soOf (c : Dev nD) (u : Fin cfg0.N) : Vec F S1x576 .f32 := sout (sacc m c (u.val + 1))
/-- The merged rows the batches' last points store. -/
abbrev xoOf (c : Dev nD) (u : Fin cfg0.N) : Vec F S1x576x2048 .bf16 := xout (sacc m c (u.val + 1)) (xacc m c (u.val + 1))

/-! ## The proof data -/

/-- The output windows, held to a predicate. -/
def marks : Fin 17 → Bool := fun w => w.val == 11 || w.val == 12 || w.val == 13 || w.val == 14 || w.val == 15 || w.val == 16

/-- What the body leaves in an output's block meets. -/
def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun _ => True
  | ⟨8, _⟩ => fun _ => True
  | ⟨9, _⟩ => fun _ => True
  | ⟨10, _⟩ => fun _ => True
  | ⟨11, _⟩ => fun X => t.val % 3 = 2 → X = xoOf m c t
  | ⟨12, _⟩ => fun X => Rows (soOf m c) (t.val + 1) X
  | ⟨13, _⟩ => fun X => X = (insAt m c t).hc
  | ⟨14, _⟩ => fun X => Strip (hsOf m c) (t.val + 1) X
  | ⟨15, _⟩ => fun X => X = (insAt m c t).gc
  | ⟨16, _⟩ => fun X => Strip (gsOf m c) (t.val + 1) X
  | ⟨_ + 17, h⟩ => absurd h (Nat.not_lt.2 (Nat.le_add_left _ _))

/-- The invariant before position `n`: the carried scratch at what the points before left. -/
def PhiS (c : Dev nD) : (n : ℕ) → n ≤ cfg0.N → sProp 𝕄
  | 0, _ => Pipeline.ΦA spec0 c
  | n + 1, _ => iprop(iprop((∃ d, owns (c : Thread nD τ) scM0_0 fullShare d) ∗ owns (c : Thread nD τ) scM0_1 fullShare (xacc m c (n + 1)) ∗ owns (c : Thread nD τ) scM0_2 fullShare (sacc m c (n + 1))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (xacc m c n) ∗ owns (c : Thread nD τ) scM0_2 fullShare (sacc m c n)) ∗ (∃ r, prngReg c r)) := by
  cases n with
  | zero => exact absurd rfl hz
  | succ n => rfl

/-- The proof data of the pipeline on core `c`: the outputs not named here (`Rl` says of them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The relational proof data. -/
abbrev rdat (c : Dev nD) : Pipeline.RDat τ (Elt F) Unit ℕ (UR sig nD τ) ℕ cfg0 c := (dats m 0 c).toRRel marks (Rl m c)

theorem finds_12 (c : Dev nD) (t : Fin cfg0.N) (Y : (cfg0.win 12).block.Idx → Elt F (cfg0.win 12).elt)
    (h : ((dats m 0 c).toRRel marks (Rl m c)).Finds 12 t Y) : Rows (soOf m c) t.val Y := by
  by_cases hz : t.val = 0
  · intro u hu; omega
  · have ht : t.val < 6 := Nat.lt_of_lt_of_eq t.isLt N_0
    rcases (Pipeline.RDat.finds_of_pos _ (w := 12) (t := t) rfl hz Y).mp h with hf | hl
    · have := (flush0_12 _).mp hf
      dsimp only at this
      omega
    · have := (dats m 0 c).toRRel_leaves (w := 12) rfl hl
      have e : t.val - 1 + 1 = t.val := by omega
      have this' : Rows (soOf m c) (t.val - 1 + 1) Y := this
      rwa [e] at this'

theorem finds_14 (c : Dev nD) (t : Fin cfg0.N) (Y : (cfg0.win 14).block.Idx → Elt F (cfg0.win 14).elt)
    (h : ((dats m 0 c).toRRel marks (Rl m c)).Finds 14 t Y) : Strip (hsOf m c) t.val Y := by
  by_cases hz : t.val = 0
  · intro u hu; omega
  · have ht : t.val < 6 := Nat.lt_of_lt_of_eq t.isLt N_0
    rcases (Pipeline.RDat.finds_of_pos _ (w := 14) (t := t) rfl hz Y).mp h with hf | hl
    · have := (flush0_14 _).mp hf
      dsimp only at this
      omega
    · have := (dats m 0 c).toRRel_leaves (w := 14) rfl hl
      have e : t.val - 1 + 1 = t.val := by omega
      have this' : Strip (hsOf m c) (t.val - 1 + 1) Y := this
      rwa [e] at this'

theorem finds_16 (c : Dev nD) (t : Fin cfg0.N) (Y : (cfg0.win 16).block.Idx → Elt F (cfg0.win 16).elt)
    (h : ((dats m 0 c).toRRel marks (Rl m c)).Finds 16 t Y) : Strip (gsOf m c) t.val Y := by
  by_cases hz : t.val = 0
  · intro u hu; omega
  · have ht : t.val < 6 := Nat.lt_of_lt_of_eq t.isLt N_0
    rcases (Pipeline.RDat.finds_of_pos _ (w := 16) (t := t) rfl hz Y).mp h with hf | hl
    · have := (flush0_16 _).mp hf
      dsimp only at this
      omega
    · have := (dats m 0 c).toRRel_leaves (w := 16) rfl hl
      have e : t.val - 1 + 1 = t.val := by omega
      have this' : Strip (gsOf m c) (t.val - 1 + 1) Y := this
      rwa [e] at this'

/-! ## The body obligation, at a generic point -/

end Cert.KernelIdeal.Hand

end
-- ==== Proof.Hand.Body.lean ====
/- The body at every grid point, the launch, and the kernel's frame. -/
module

public import proofs.«01_k».proof.Proof.Hand.RunC
public import proofs.«01_k».proof.Proof.Hand.Data
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel marks (Rl m c)).Finds 11 t Y⌝ ∗ owns (c : Thread nD τ) (ms0_11 t) fullShare Y)
    ∗ (∃ Y, ⌜((dats m 0 c).toRRel marks (Rl m c)).Finds 12 t Y⌝ ∗ owns (c : Thread nD τ) (ms0_12 t) fullShare Y)
    ∗ (∃ Y, ⌜((dats m 0 c).toRRel marks (Rl m c)).Finds 13 t Y⌝ ∗ owns (c : Thread nD τ) (ms0_13 t) fullShare Y)
    ∗ (∃ Y, ⌜((dats m 0 c).toRRel marks (Rl m c)).Finds 14 t Y⌝ ∗ owns (c : Thread nD τ) (ms0_14 t) fullShare Y)
    ∗ (∃ Y, ⌜((dats m 0 c).toRRel marks (Rl m c)).Finds 15 t Y⌝ ∗ owns (c : Thread nD τ) (ms0_15 t) fullShare Y)
    ∗ (∃ Y, ⌜((dats m 0 c).toRRel marks (Rl m c)).Finds 16 t Y⌝ ∗ owns (c : Thread nD τ) (ms0_16 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X))

set_option maxHeartbeats 4000000 in
/-- The body at any point: its case is the point's place in its batch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7, before0_8, after0_8, before0_9, after0_9, before0_10, after0_10]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [PhiS_castSucc m c t]
  have hN : t.val < 6 := lt_of_lt_of_eq t.isLt (show cfg0.N = 6 from N_0)
  by_cases h0 : t.val % 3 = 0
  · have h1 : ¬t.val % 3 = 2 := by omega
    by_cases hz : t.val = 0
    · rw [PhiS_zero m c _ _ hz, PhiA0_eq]
      iintro ⟨⟨⟨HS0, ⟨%xs1, HS1⟩, ⟨%xs2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y11, %hy11, H11⟩, ⟨%y12, %hy12, H12⟩, ⟨%y13, %hy13, H13⟩, ⟨%y14, %hy14, H14⟩, ⟨%y15, %hy15, H15⟩, ⟨%y16, %hy16, H16⟩⟩
      have hx : xacc m c (t.val + 1) = (insAt m c t).xstep (grid0.coords t) (k0_pay46) := by rw [xacc_succ, if_pos h0]
      have hs : sacc m c (t.val + 1) = (insAt m c t).sstep (grid0.coords t) (k0_pay47) := by rw [sacc_succ, if_pos h0]
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (insAt m c t) y11 y12 y13 y14 y15 y16 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      iintro ⟨H0, H1, H2, H3, H4, H5, H6, H7, H8, H9, H10, H11, H12, H13, H14, H15, H16, HS0, HS1, HS2⟩
      rw [hx, hs]
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro; intro h; exact absurd h h1
      isplitl [H12]
      · iexists _; isplitr; swap; · iexact H12
        ipureintro; exact (finds_12 m c t y12 hy12).skip h1
      isplitl [H13]
      · iexists _; isplitr; swap; · iexact H13
        ipureintro; rfl
      isplitl [H14]
      · iexists _; isplitr; swap; · iexact H14
        ipureintro; exact (finds_14 m c t y14 hy14).step
      isplitl [H15]
      · iexists _; isplitr; swap; · iexact H15
        ipureintro; rfl
      iexists _; isplitr; swap; · iexact H16
      ipureintro; exact (finds_16 m c t y16 hy16).step
    · rw [PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y11, %hy11, H11⟩, ⟨%y12, %hy12, H12⟩, ⟨%y13, %hy13, H13⟩, ⟨%y14, %hy14, H14⟩, ⟨%y15, %hy15, H15⟩, ⟨%y16, %hy16, H16⟩⟩
      have hx : xacc m c (t.val + 1) = (insAt m c t).xstep (grid0.coords t) (k0_pay46) := by rw [xacc_succ, if_pos h0]
      have hs : sacc m c (t.val + 1) = (insAt m c t).sstep (grid0.coords t) (k0_pay47) := by rw [sacc_succ, if_pos h0]
      iapply (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) ((hcond0_0 t).mpr h0) (fun h => h1 ((hcond0_1 t).mp h)) (insAt m c t) y11 y12 y13 y14 y15 y16 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      iintro ⟨H0, H1, H2, H3, H4, H5, H6, H7, H8, H9, H10, H11, H12, H13, H14, H15, H16, HS0, HS1, HS2⟩
      rw [hx, hs]
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro; intro h; exact absurd h h1
      isplitl [H12]
      · iexists _; isplitr; swap; · iexact H12
        ipureintro; exact (finds_12 m c t y12 hy12).skip h1
      isplitl [H13]
      · iexists _; isplitr; swap; · iexact H13
        ipureintro; rfl
      isplitl [H14]
      · iexists _; isplitr; swap; · iexact H14
        ipureintro; exact (finds_14 m c t y14 hy14).step
      isplitl [H15]
      · iexists _; isplitr; swap; · iexact H15
        ipureintro; rfl
      iexists _; isplitr; swap; · iexact H16
      ipureintro; exact (finds_16 m c t y16 hy16).step
  · have hz : t.val ≠ 0 := fun h => h0 (by rw [h])
    by_cases h1 : t.val % 3 = 2
    · rw [PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y11, %hy11, H11⟩, ⟨%y12, %hy12, H12⟩, ⟨%y13, %hy13, H13⟩, ⟨%y14, %hy14, H14⟩, ⟨%y15, %hy15, H15⟩, ⟨%y16, %hy16, H16⟩⟩
      have hx : xacc m c (t.val + 1) = (insAt m c t).xstep (grid0.coords t) (xacc m c t.val) := by rw [xacc_succ, if_neg h0]
      have hs : sacc m c (t.val + 1) = (insAt m c t).sstep (grid0.coords t) (sacc m c t.val) := by rw [sacc_succ, if_neg h0]
      iapply (run_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) ((hcond0_1 t).mpr h1) (insAt m c t) y11 y12 y13 y14 y15 y16 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      iintro ⟨H0, H1, H2, H3, H4, H5, H6, H7, H8, H9, H10, H11, H12, H13, H14, H15, H16, HS0, HS1, HS2⟩
      rw [hx, hs]
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro; intro _; show _ = xoOf m c t; unfold xoOf; rw [hx, hs]
      isplitl [H12]
      · iexists _; isplitr; swap; · iexact H12
        ipureintro; have := (finds_12 m c t y12 hy12).step h1; unfold soOf at this; rw [hs] at this; exact this
      isplitl [H13]
      · iexists _; isplitr; swap; · iexact H13
        ipureintro; rfl
      isplitl [H14]
      · iexists _; isplitr; swap; · iexact H14
        ipureintro; exact (finds_14 m c t y14 hy14).step
      isplitl [H15]
      · iexists _; isplitr; swap; · iexact H15
        ipureintro; rfl
      iexists _; isplitr; swap; · iexact H16
      ipureintro; exact (finds_16 m c t y16 hy16).step
    · rw [PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%y11, %hy11, H11⟩, ⟨%y12, %hy12, H12⟩, ⟨%y13, %hy13, H13⟩, ⟨%y14, %hy14, H14⟩, ⟨%y15, %hy15, H15⟩, ⟨%y16, %hy16, H16⟩⟩
      have hx : xacc m c (t.val + 1) = (insAt m c t).xstep (grid0.coords t) (xacc m c t.val) := by rw [xacc_succ, if_neg h0]
      have hs : sacc m c (t.val + 1) = (insAt m c t).sstep (grid0.coords t) (sacc m c t.val) := by rw [sacc_succ, if_neg h0]
      iapply (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) (fun h => h0 ((hcond0_0 t).mp h)) (fun h => h1 ((hcond0_1 t).mp h)) (insAt m c t) y11 y12 y13 y14 y15 y16 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      iintro ⟨H0, H1, H2, H3, H4, H5, H6, H7, H8, H9, H10, H11, H12, H13, H14, H15, H16, HS0, HS1, HS2⟩
      rw [hx, hs]
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · iexists _; isplitr; swap; · iexact H11
        ipureintro; intro h; exact absurd h h1
      isplitl [H12]
      · iexists _; isplitr; swap; · iexact H12
        ipureintro; exact (finds_12 m c t y12 hy12).skip h1
      isplitl [H13]
      · iexists _; isplitr; swap; · iexact H13
        ipureintro; rfl
      isplitl [H14]
      · iexists _; isplitr; swap; · iexact H14
        ipureintro; exact (finds_14 m c t y14 hy14).step
      isplitl [H15]
      · iexists _; isplitr; swap; · iexact H15
        ipureintro; rfl
      iexists _; isplitr; swap; · iexact H16
      ipureintro; exact (finds_16 m c t y16 hy16).step

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    Pipeline.BodyObligationRel (dats (F := F) m 0 c) (defs₀ (F := F)) Variants.none () Set.univ marks (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 6 := N_0; omega)

/-! ## The run and the frame -/

set_option backward.isDefEq.respectTransparency.types false in
/-- THE LAUNCH: every fair run ends, every counter is zero, and the arrays are as the relational data say. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (rdat m) (V m)) :=
  (θ_run defs _ _).mono (fun _ h => h.1) (run_main_quiescent m ρ)

/-- The frame claim: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_ofR m ρ (rdat m) (A_eq m) (run_main m ρ)) ((θ_run defs _ _).mono (fun _ h => h.2) (run_main_quiescent m ρ))

end Cert.KernelIdeal.Hand

end
-- ==== Proof.Hand.Ladder.lean ====
/- The scale of a quantised row, two ways. The reference takes the exponent of the row's scaled maximum by a
   logarithm (`expo`). The kernel counts how many of the normal powers of two the scaled maximum reaches, and writes
   the count into the exponent field of a word. Here the two are shown to agree at every extended real. -/
module

public import Idealize.ShloMosaic.Lib.Pointwise
public import Idealize.ShloMosaic.Lib.IndicatorCount

@[expose] public section

set_option maxRecDepth 16384

noncomputable section

namespace Cert.Quant

open Idealize.ShloMosaic

/-- The reference's exponent of a row with scaled maximum `r`: zero below the smallest normal number, else one more
    than the floor of the binary logarithm, at most 120. -/
def expo (r : EReal) : EReal :=
  if r < Ideal.ofBits .f32 8388608#32 then 0
  else min (Ideal.liftRound Int.floor (Ideal.div (Ideal.log r) (Ideal.log (Ideal.ofBits .f32 1073741824#32))) + 1)
    (Ideal.ofBits .f32 1123024896#32)

/-- The kernel's step `k` of the ladder: the power of two with exponent field `k + 1`. -/
def rung (k : ℕ) : EReal := Ideal.ofBits .f32 (IntOp.shli .vector (IntOp.addi (BitVec.ofNat 32 k) 1#32) 23#32)

/-- How many steps of the ladder `r` reaches, as the kernel counts them. -/
def field (r : EReal) : BitVec 32 :=
  Finset.fold IntOp.addi (0#32) (fun k : Fin 246 => Scalar.select (BitVec.ofBool (decide (rung ↑k ≤ r))) 1#32 0#32) Finset.univ

/-- The kernel's exponent word. -/
def word (r : EReal) : BitVec 32 :=
  Scalar.select (IntOp.cmpi .eq (field r) 0#32) (0#32) (IntOp.subi (field r) 126#32)

/-- The float32 word with exponent field `m` and nothing else is the power of two `2 ^ (m - 127)`. -/
theorem ofBits_field (m : ℕ) (h1 : 1 ≤ m) (h2 : m ≤ 254) :
    Ideal.ofBits .f32 (BitVec.ofNat 32 m <<< 23) = (((2 : ℝ) ^ ((m : ℤ) - 127) : ℝ) : EReal) := by
  have hb : (BitVec.ofNat 32 m <<< 23).toNat = m * 2 ^ 23 := by
    rw [BitVec.toNat_shiftLeft, BitVec.toNat_ofNat, Nat.shiftLeft_eq]
    omega
  have hn : (BitVec.ofNat 32 m <<< 23).extractLsb' 31 1 = 0#1 := by
    apply BitVec.eq_of_toNat_eq
    rw [BitVec.extractLsb'_toNat, hb, Nat.shiftRight_eq_div_pow]
    simp only [BitVec.toNat_ofNat]
    omega
  have he : ((BitVec.ofNat 32 m <<< 23).extractLsb' 23 8).toNat = m := by
    rw [BitVec.extractLsb'_toNat, hb, Nat.shiftRight_eq_div_pow]
    omega
  have hf : ((BitVec.ofNat 32 m <<< 23).extractLsb' 0 23).toNat = 0 := by
    rw [BitVec.extractLsb'_toNat, hb, Nat.shiftRight_eq_div_pow]
    omega
  generalize BitVec.ofNat 32 m <<< 23 = b at hn he hf
  have key : Ideal.ieee 8 23 b = (((1 : ℝ) * ((2 ^ 23 + 0 : ℕ) : ℝ) * (2 : ℝ) ^ ((m : ℤ) - (2 ^ (8 - 1) - 1) - (23 : ℕ)) : ℝ) : EReal) := by
    unfold Ideal.ieee
    simp only [hn, he, hf]
    rw [if_neg (by omega), if_neg (by omega)]
    rfl
  refine (show Ideal.ofBits .f32 b = Ideal.ieee 8 23 b from rfl).trans (key.trans (congrArg Real.toEReal ?_))
  have : ((m : ℤ) - 127) = ((m : ℤ) - (2 ^ (8 - 1) - 1) - (23 : ℕ)) + (23 : ℕ) := by norm_num
  rw [this, zpow_add₀ (by norm_num : (2 : ℝ) ≠ 0)]
  norm_num
  ring

/-- The shift the kernel writes is the shift by 23. -/
theorem shli_23 (w : BitVec 32) : IntOp.shli .vector w 23#32 = w <<< 23 := by
  simp [IntOp.shli]

theorem rung_eq (k : ℕ) (h : k < 246) : rung k = (((2 : ℝ) ^ ((k : ℤ) - 126) : ℝ) : EReal) := by
  have e : IntOp.addi (BitVec.ofNat 32 k) 1#32 = BitVec.ofNat 32 (k + 1) := by
    rw [BitVec.ofNat_add]; rfl
  unfold rung
  rw [shli_23, e, ofBits_field (k + 1) (by omega) (by omega)]
  congr 2
  push_cast
  ring

theorem ofBits_two : Ideal.ofBits .f32 1073741824#32 = ((2 : ℝ) : EReal) := by
  have := ofBits_field 128 (by norm_num) (by norm_num)
  rw [show (BitVec.ofNat 32 128 <<< 23) = 1073741824#32 from by decide] at this
  rw [this]; norm_num

theorem ofBits_tiny : Ideal.ofBits .f32 8388608#32 = (((2 : ℝ) ^ (-126 : ℤ) : ℝ) : EReal) := by
  have := ofBits_field 1 (by norm_num) (by norm_num)
  rw [show (BitVec.ofNat 32 1 <<< 23) = 8388608#32 from by decide] at this
  rw [this]; norm_num

theorem ofBits_120 : Ideal.ofBits .f32 1123024896#32 = ((120 : ℝ) : EReal) := by
  refine (show Ideal.ofBits .f32 1123024896#32 = Ideal.ieee 8 23 (1123024896#32) from rfl).trans ?_
  unfold Ideal.ieee
  have h1 : (1123024896#32).extractLsb' (8 + 23) 1 = 0#1 := by decide
  have h2 : ((1123024896#32).extractLsb' 23 8).toNat = 133 := by decide
  have h3 : ((1123024896#32).extractLsb' 0 23).toNat = 7340032 := by decide
  simp only [h1, h2, h3]
  norm_num

/-- A count of the steps below `n` is `n`. -/
theorem field_of (r : EReal) (n : ℕ) (hn : n ≤ 246) (h : ∀ k : Fin 246, rung ↑k ≤ r ↔ k.val < n) :
    field r = BitVec.ofNat 32 n := by
  have e : ∀ k : Fin 246, Scalar.select (BitVec.ofBool (decide (rung ↑k ≤ r))) 1#32 0#32
      = (BitVec.ofBool (decide (k.val < n))).setWidth 32 := fun k => by
    by_cases hk : k.val < n
    · rw [decide_eq_true ((h k).mpr hk), decide_eq_true hk]; rfl
    · rw [decide_eq_false (fun hh => hk ((h k).mp hh)), decide_eq_false hk]; rfl
  unfold field
  rw [Finset.fold_congr fun k _ => e k, IndicatorCount.fold_addi_setWidth_eq_card]
  congr 1
  have e2 : (Finset.univ.filter fun k : Fin 246 => BitVec.ofBool (decide (k.val < n)) = 1#1)
      = Finset.univ.filter fun k : Fin 246 => k.val < n := by
    apply Finset.filter_congr
    intro k _
    by_cases hk : k.val < n <;> simp [hk]
  rw [e2, Fin.card_filter_val_lt]
  omega

/-- The count, and the reference's exponent from it. -/
theorem exists_count (r : EReal) :
    ∃ n : ℕ, n ≤ 246 ∧ field r = BitVec.ofNat 32 n ∧ expo r = if n = 0 then 0 else (((n : ℝ) - 126 : ℝ) : EReal) := by
  have h2 : (0 : ℝ) < Real.log 2 := Real.log_pos (by norm_num)
  have hlog2 : Ideal.log (Ideal.ofBits .f32 1073741824#32) = ((Real.log 2 : ℝ) : EReal) := by
    rw [ofBits_two]; exact if_neg (by norm_num)
  have hl0 : ((Real.log 2 : ℝ) : EReal) ≠ 0 := by exact_mod_cast h2.ne'
  by_cases hr : r < Ideal.ofBits .f32 8388608#32
  · refine ⟨0, by norm_num, field_of r 0 (by norm_num) fun k => ⟨fun hk => ?_, fun hk => absurd hk (Nat.not_lt_zero _)⟩, ?_⟩
    · rw [rung_eq _ k.isLt] at hk
      rw [ofBits_tiny] at hr
      have := lt_of_le_of_lt hk hr
      rw [EReal.coe_lt_coe_iff, zpow_lt_zpow_iff_right₀ (by norm_num)] at this
      omega
    · rw [expo, if_pos hr, if_pos rfl]
  · have hr' := not_lt.mp hr
    rw [ofBits_tiny] at hr'
    induction r using EReal.rec with
    | bot => exact absurd hr' (by simp)
    | top =>
      refine ⟨246, le_rfl, field_of ⊤ 246 le_rfl fun k => ⟨fun _ => k.isLt, fun _ => le_top⟩, ?_⟩
      rw [expo, if_neg hr, if_neg (by norm_num), hlog2, ofBits_120]
      have e1 : Ideal.log ⊤ = ⊤ := rfl
      rw [e1, Ideal.div, if_neg hl0, ← EReal.coe_inv, EReal.top_mul_coe_of_pos (inv_pos.mpr h2), Ideal.liftRound_top]
      rw [show (⊤ : EReal) + 1 = ⊤ from rfl, min_eq_right le_top]
      norm_num
    | coe x =>
      have hx : (2 : ℝ) ^ (-126 : ℤ) ≤ x := by exact_mod_cast hr'
      have hx0 : 0 < x := lt_of_lt_of_le (by positivity) hx
      obtain ⟨L, hL⟩ : ∃ L : ℤ, L = ⌊Real.log x / Real.log 2⌋ := ⟨_, rfl⟩
      have hpow : ∀ z : ℤ, (2 : ℝ) ^ z ≤ x ↔ z ≤ L := fun z => by
        rw [hL, Int.le_floor, le_div_iff₀ h2, ← Real.log_zpow, Real.log_le_log_iff (by positivity) hx0]
      have hL1 : -126 ≤ L := (hpow _).mp hx
      have hexpo : expo (x : EReal) = ((min ((L : ℝ) + 1) 120 : ℝ) : EReal) := by
        rw [expo, if_neg hr, hlog2, ofBits_120]
        have e1 : Ideal.log (x : EReal) = ((Real.log x : ℝ) : EReal) := if_neg (not_le.mpr hx0)
        rw [e1, Ideal.div, if_neg hl0, ← EReal.coe_inv, ← EReal.coe_mul, Ideal.liftRound_coe, ← div_eq_mul_inv, ← hL,
          ← EReal.coe_one, ← EReal.coe_add]
        exact (EReal.coe_strictMono.monotone.map_min).symm
      refine ⟨(min 246 (L + 127)).toNat, by omega, field_of _ _ (by omega) fun k => ?_, ?_⟩
      · rw [rung_eq _ k.isLt, EReal.coe_le_coe_iff, hpow]
        have := k.isLt
        omega
      · rw [hexpo, if_neg (by omega)]
        congr 1
        have e : (((min 246 (L + 127)).toNat : ℤ) : ℝ) = ((min 246 (L + 127) : ℤ) : ℝ) := by
          rw [Int.toNat_of_nonneg (by omega)]
        rw [Int.cast_natCast] at e
        rw [e, Int.cast_min]
        push_cast
        rw [← min_sub_sub_right]
        rw [min_comm]
        congr 1 <;> ring

theorem cmp_zero (n : ℕ) (h : n ≤ 246) (a b : BitVec 32) :
    Scalar.select (IntOp.cmpi .eq (BitVec.ofNat 32 n) 0#32) a b = if n = 0 then a else b := by
  by_cases h0 : n = 0
  · subst h0; rw [if_pos rfl]; rfl
  · rw [if_neg h0]
    have hne : BitVec.ofNat 32 n ≠ 0#32 := fun e => by
      have := congrArg BitVec.toNat e
      simp only [BitVec.toNat_ofNat] at this
      omega
    have : IntOp.cmpi .eq (BitVec.ofNat 32 n) 0#32 = 0#1 := by
      show BitVec.ofBool (BitVec.ofNat 32 n == 0#32) = 0#1
      rw [beq_false_of_ne hne]; rfl
    rw [this]; rfl

/-- The kernel's scale is the reference's. -/
theorem scale_eq (r : EReal) :
    Ideal.ofBits .f32 (IntOp.shli .vector (IntOp.addi (word r) 127#32) 23#32) = Ideal.exp2 (expo r) := by
  obtain ⟨n, hn, hf, he⟩ := exists_count r
  rw [word, hf, he, cmp_zero n hn, shli_23]
  by_cases h0 : n = 0
  · rw [if_pos h0, if_pos h0]
    rw [show IntOp.addi 0#32 127#32 = BitVec.ofNat 32 127 from rfl, ofBits_field 127 (by norm_num) (by norm_num)]
    rw [← EReal.coe_zero]
    show _ = ((Real.rpow 2 0 : ℝ) : EReal)
    congr 1
    simp
  · rw [if_neg h0, if_neg h0]
    have e : IntOp.addi (IntOp.subi (BitVec.ofNat 32 n) 126#32) 127#32 = BitVec.ofNat 32 (n + 1) := by
      apply BitVec.eq_of_toNat_eq
      simp only [IntOp.addi, IntOp.subi, BitVec.toNat_add, BitVec.toNat_sub, BitVec.toNat_ofNat]
      omega
    rw [e, ofBits_field (n + 1) (by omega) (by omega)]
    show _ = ((Real.rpow 2 ((n : ℝ) - 126) : ℝ) : EReal)
    congr 1
    show _ = (2 : ℝ) ^ ((n : ℝ) - 126)
    rw [← Real.rpow_intCast]
    congr 1
    push_cast
    ring

/-- The kernel's inverse scale is the reference's. -/
theorem inv_eq (r : EReal) :
    Ideal.ofBits .f32 (IntOp.shli .vector (IntOp.subi (127#32) (word r)) 23#32) = Ideal.exp2 (0 - expo r) := by
  obtain ⟨n, hn, hf, he⟩ := exists_count r
  rw [word, hf, he, cmp_zero n hn, shli_23]
  by_cases h0 : n = 0
  · rw [if_pos h0, if_pos h0]
    rw [show IntOp.subi 127#32 0#32 = BitVec.ofNat 32 127 from rfl, ofBits_field 127 (by norm_num) (by norm_num)]
    rw [sub_zero, ← EReal.coe_zero]
    show _ = ((Real.rpow 2 0 : ℝ) : EReal)
    congr 1
    simp
  · rw [if_neg h0, if_neg h0]
    have e : IntOp.subi 127#32 (IntOp.subi (BitVec.ofNat 32 n) 126#32) = BitVec.ofNat 32 (253 - n) := by
      apply BitVec.eq_of_toNat_eq
      simp only [IntOp.subi, BitVec.toNat_sub, BitVec.toNat_ofNat]
      omega
    rw [e, ofBits_field (253 - n) (by omega) (by omega), ← EReal.coe_zero, ← EReal.coe_sub]
    show _ = ((Real.rpow 2 (0 - ((n : ℝ) - 126)) : ℝ) : EReal)
    congr 1
    show _ = (2 : ℝ) ^ (0 - ((n : ℝ) - 126))
    rw [← Real.rpow_intCast]
    congr 1
    rw [Nat.cast_sub (by omega)]
    push_cast
    ring

/-- Every scale is a real number. -/
theorem exp2_expo_real (r : EReal) : ∃ x : ℝ, Ideal.exp2 (expo r) = (x : EReal) := by
  obtain ⟨n, -, -, he⟩ := exists_count r
  rw [he]
  split
  · exact ⟨Real.rpow 2 0, rfl⟩
  · exact ⟨_, rfl⟩

end Cert.Quant

end
-- ==== Proof.Hand.Rows.lean ====
/- One token's row through the block's second half, as functions of extended reals: the layer norm, its codes and
   scale, the activation, its codes and scale, and the output row. Both programs are read down to these. -/
module

public import proofs.«01_k».proof.Proof.Hand.Ladder

@[expose] public section

set_option maxRecDepth 16384

noncomputable section

namespace Cert.Quant

open Idealize.ShloMosaic

/-- Weights, scales and biases. -/
structure Wts where
  g : Fin 2048 → EReal
  b : Fin 2048 → EReal
  w1 : Fin 2048 → Fin 7168 → EReal
  s1 : Fin 7168 → EReal
  b1 : Fin 7168 → EReal
  w2 : Fin 7168 → Fin 2048 → EReal
  s2 : Fin 2048 → EReal
  b2 : Fin 2048 → EReal

/-- The constants 2048, 10⁻⁶, 1/448, ±448, 1/2 and √½. -/
abbrev k2048 : EReal := Ideal.ofBits .f32 1157627904#32
@[inherit_doc k2048] abbrev kEps : EReal := Ideal.ofBits .f32 897988541#32
@[inherit_doc k2048] abbrev kInv448 : EReal := Ideal.ofBits .f32 991054117#32
@[inherit_doc k2048] abbrev kLo : EReal := Ideal.ofBits .f32 3286237184#32
@[inherit_doc k2048] abbrev kHi : EReal := Ideal.ofBits .f32 1138753536#32
@[inherit_doc k2048] abbrev kHalf : EReal := Ideal.ofBits .f32 1056964608#32
@[inherit_doc k2048] abbrev kRoot : EReal := Ideal.ofBits .f32 1060439283#32
@[inherit_doc k2048] abbrev kBot : EReal := Ideal.ofBits .f32 4286578688#32

/-- The mean of a row. -/
def mean (x : Fin 2048 → EReal) : EReal := Ideal.div (∑ k, x k) k2048

/-- The layer norm of a row. -/
def lnRow (W : Wts) (x : Fin 2048 → EReal) (j : Fin 2048) : EReal :=
  (x j - mean x) * Ideal.rsqrt (mean (fun k => (x k - mean x) * (x k - mean x)) + kEps) * W.g j + W.b j

/-- The largest absolute value of a row, over 448. -/
def scaled {n : ℕ} (v : Fin n → EReal) : EReal :=
  Finset.fold max kBot (fun k => (FloatOps.absf (F := Ideal) (φ := .f32) (v k) : EReal)) Finset.univ * kInv448

/-- The scale of a row whose scaled maximum is `r`. -/
def scale (r : EReal) : EReal := Ideal.exp2 (expo r)

/-- The code of `v` in a row whose scaled maximum is `r`. -/
def code (r v : EReal) : EReal := min kHi (max kLo (v * Ideal.exp2 (0 - expo r)))

/-- The activation function. -/
def gelu (z : EReal) : EReal := kHalf * z * (1 + Ideal.erf (z * kRoot))

/-- The codes of the normed row, -/
def hcRow (W : Wts) (x : Fin 2048 → EReal) (j : Fin 2048) : EReal := code (scaled (lnRow W x)) (lnRow W x j)
/-- their scale, -/
def hsRow (W : Wts) (x : Fin 2048 → EReal) : EReal := scale (scaled (lnRow W x))
/-- the activation, -/
def gRow (W : Wts) (x : Fin 2048 → EReal) (j : Fin 7168) : EReal :=
  gelu ((∑ k, hcRow W x k * W.w1 k j) * hsRow W x * W.s1 j + W.b1 j)
/-- its codes, -/
def gcRow (W : Wts) (x : Fin 2048 → EReal) (j : Fin 7168) : EReal := code (scaled (gRow W x)) (gRow W x j)
/-- their scale, -/
def gsRow (W : Wts) (x : Fin 2048 → EReal) : EReal := scale (scaled (gRow W x))
/-- and the output row. -/
def yRow (W : Wts) (x : Fin 2048 → EReal) (j : Fin 2048) : EReal :=
  x j + ((∑ k, gcRow W x k * W.w2 k j) * gsRow W x * W.s2 j + W.b2 j)

/-- The size of slot `n`, and one component of its weighted sum of rows. -/
def slotSum (dest : Fin 768 → BitVec 32) (f : Fin 768 → EReal) (n : ℕ) : EReal :=
  ∑ k, Scalar.select (IntOp.cmpi .eq (dest k) (BitVec.ofNat 32 n)) (f k) 0

/-- A slot's merged component: the weighted sum over the slot's size, or over one where the slot has no size. -/
def merged (xs s : EReal) : EReal := Ideal.div xs (if 0 < s then s else 1)

/-! ## Finite values -/

/-- An extended real that is a real number. -/
def Real' (v : EReal) : Prop := ∃ x : ℝ, v = (x : EReal)

theorem Real'.add {a b : EReal} (ha : Real' a) (hb : Real' b) : Real' (a + b) := by
  obtain ⟨x, rfl⟩ := ha; obtain ⟨y, rfl⟩ := hb; exact ⟨x + y, by push_cast; rfl⟩

theorem Real'.mul {a b : EReal} (ha : Real' a) (hb : Real' b) : Real' (a * b) := by
  obtain ⟨x, rfl⟩ := ha; obtain ⟨y, rfl⟩ := hb; exact ⟨x * y, by push_cast; rfl⟩

theorem Real'.sum {ι : Type} (s : Finset ι) {f : ι → EReal} (h : ∀ i, Real' (f i)) : Real' (∑ i ∈ s, f i) := by
  classical
  induction s using Finset.induction_on with
  | empty => exact ⟨0, by simp⟩
  | insert a s ha ih => rw [Finset.sum_insert ha]; exact (h a).add ih

theorem Real'.sub_self {a : EReal} (ha : Real' a) : a - a = 0 := by
  obtain ⟨x, rfl⟩ := ha
  rw [← EReal.coe_sub, _root_.sub_self, EReal.coe_zero]

theorem kHi_real : kHi = ((448 : ℝ) : EReal) := by
  refine (show kHi = Ideal.ieee 8 23 (1138753536#32) from rfl).trans ?_
  unfold Ideal.ieee
  have h1 : (1138753536#32).extractLsb' (8 + 23) 1 = 0#1 := by decide
  have h2 : ((1138753536#32).extractLsb' 23 8).toNat = 135 := by decide
  have h3 : ((1138753536#32).extractLsb' 0 23).toNat = 6291456 := by decide
  simp only [h1, h2, h3]
  norm_num

theorem kLo_real : kLo = ((-448 : ℝ) : EReal) := by
  refine (show kLo = Ideal.ieee 8 23 (3286237184#32) from rfl).trans ?_
  unfold Ideal.ieee
  have h1 : (3286237184#32).extractLsb' (8 + 23) 1 = 1#1 := by decide
  have h2 : ((3286237184#32).extractLsb' 23 8).toNat = 135 := by decide
  have h3 : ((3286237184#32).extractLsb' 0 23).toNat = 6291456 := by decide
  simp only [h1, h2, h3]
  norm_num

theorem kBot_eq : kBot = ⊥ := by
  refine (show kBot = Ideal.ieee 8 23 (4286578688#32) from rfl).trans ?_
  unfold Ideal.ieee
  have h1 : (4286578688#32).extractLsb' (8 + 23) 1 = 1#1 := by decide
  have h2 : ((4286578688#32).extractLsb' 23 8).toNat = 255 := by decide
  have h3 : ((4286578688#32).extractLsb' 0 23).toNat = 0 := by decide
  simp only [h1, h2, h3]
  norm_num

theorem code_real (r v : EReal) : Real' (code r v) := by
  unfold code
  rw [kHi_real, kLo_real]
  generalize v * Ideal.exp2 (0 - expo r) = u
  induction u using EReal.rec with
  | bot => exact ⟨-448, by rw [max_eq_left bot_le, min_eq_right]; exact_mod_cast (by norm_num : (-448 : ℝ) ≤ 448)⟩
  | top => exact ⟨448, by rw [max_eq_right le_top, min_eq_left le_top]⟩
  | coe x =>
    refine ⟨min 448 (max (-448) x), ?_⟩
    rw [← EReal.coe_strictMono.monotone.map_max, ← EReal.coe_strictMono.monotone.map_min]

theorem yRow_real (W : Wts) (x : Fin 2048 → EReal) (hx : ∀ j, Real' (x j)) (hw : ∀ k j, Real' (W.w2 k j))
    (hs : ∀ j, Real' (W.s2 j)) (hb : ∀ j, Real' (W.b2 j)) (j : Fin 2048) : Real' (yRow W x j) :=
  (hx j).add ((((Real'.sum _ fun k => (code_real _ _).mul (hw k j)).mul (exp2_expo_real _)).mul (hs j)).add (hb j))

/-! ## Dividing by 2048 -/

/-- The kernel multiplies by 1/2048. -/
theorem mul_inv2048 (s : EReal) : s * Ideal.ofBits .f32 973078528#32 = Ideal.div s k2048 := by
  have h1 := ofBits_field 116 (by norm_num) (by norm_num)
  rw [show (BitVec.ofNat 32 116 <<< 23) = 973078528#32 from by decide] at h1
  have h2 := ofBits_field 138 (by norm_num) (by norm_num)
  rw [show (BitVec.ofNat 32 138 <<< 23) = 1157627904#32 from by decide] at h2
  have h3 : (((2 : ℝ) ^ (((138 : ℕ) : ℤ) - 127) : ℝ) : EReal) ≠ 0 := by
    have : ((2 : ℝ) ^ (((138 : ℕ) : ℤ) - 127)) ≠ 0 := by positivity
    exact_mod_cast this
  rw [h1, k2048, h2, Ideal.div, if_neg h3, ← EReal.coe_inv]
  congr 2

/-! ## The maximum of a row, chunk by chunk -/

theorem absf_nonneg (v : EReal) : (0 : EReal) ≤ FloatOps.absf (F := Ideal) (φ := .f32) v := by
  show (0 : EReal) ≤ max v (-v)
  rcases le_total 0 v with h | h
  · exact le_max_of_le_left h
  · exact le_max_of_le_right (by rw [EReal.le_neg]; simpa using h)

/-- The bound of a maximum over a row. -/
theorem foldmax_le {n : ℕ} (f : Fin n → EReal) (c : EReal) :
    Finset.fold max kBot f Finset.univ ≤ c ↔ ∀ k, f k ≤ c := by
  rw [kBot_eq, Finset.fold_max_le]
  simp

/-- Two maxima with the same upper bounds are equal. -/
theorem eq_of_bounds {a b : EReal} (h : ∀ c, a ≤ c ↔ b ≤ c) : a = b :=
  le_antisymm ((h b).mpr le_rfl) ((h a).mp le_rfl)

/-- The running maximum over seven chunks of 1024, started at zero, is the maximum over the row of 7168. -/
theorem max_chunks (f : Fin 7168 → EReal) (h0 : ∀ k, 0 ≤ f k) (g : Fin 7 → Fin 1024 → EReal)
    (hg : ∀ a l, g a l = f ⟨a.val * 1024 + l.val, by omega⟩) :
    max (max (max (max (max (max (max 0 (Finset.fold max kBot (g 0) Finset.univ)) (Finset.fold max kBot (g 1) Finset.univ))
      (Finset.fold max kBot (g 2) Finset.univ)) (Finset.fold max kBot (g 3) Finset.univ))
      (Finset.fold max kBot (g 4) Finset.univ)) (Finset.fold max kBot (g 5) Finset.univ))
      (Finset.fold max kBot (g 6) Finset.univ) = Finset.fold max kBot f Finset.univ := by
  refine eq_of_bounds fun c => ?_
  simp only [max_le_iff, foldmax_le]
  constructor
  · rintro ⟨⟨⟨⟨⟨⟨⟨-, h0⟩, h1⟩, h2⟩, h3⟩, h4⟩, h5⟩, h6⟩ k
    have key : ∀ (a : Fin 7) (l : Fin 1024), g a l ≤ c := by
      intro a
      fin_cases a
      · exact h0
      · exact h1
      · exact h2
      · exact h3
      · exact h4
      · exact h5
      · exact h6
    have := key ⟨k.val / 1024, by omega⟩ ⟨k.val % 1024, by omega⟩
    rw [hg] at this
    refine le_trans (le_of_eq (congrArg f (Fin.ext ?_))) this
    show k.val = k.val / 1024 * 1024 + k.val % 1024
    omega
  · intro h
    have key : ∀ a l, g a l ≤ c := fun a l => by rw [hg]; exact h _
    exact ⟨⟨⟨⟨⟨⟨⟨le_trans (h0 ⟨0, by omega⟩) (h _), key 0⟩, key 1⟩, key 2⟩, key 3⟩, key 4⟩, key 5⟩, key 6⟩

/-! ## A slot's sum, tile by tile -/

/-- The part of a slot's sum that tile `a` of 256 tokens adds. -/
def slotTile (dest : Fin 768 → BitVec 32) (f : Fin 768 → EReal) (n : ℕ) (a : Fin 3) : EReal :=
  ∑ l : Fin 256, Scalar.select (IntOp.cmpi .eq (dest ⟨a.val * 256 + l.val, by omega⟩) (BitVec.ofNat 32 n))
    (f ⟨a.val * 256 + l.val, by omega⟩) 0

theorem slotSum_tiles (dest : Fin 768 → BitVec 32) (f : Fin 768 → EReal) (n : ℕ) :
    slotTile dest f n 0 + slotTile dest f n 1 + slotTile dest f n 2 = slotSum dest f n := by
  have e : ∀ F : Fin 768 → EReal, ∑ a : Fin 3, ∑ l : Fin 256, F ⟨a.val * 256 + l.val, by omega⟩ = ∑ k, F k := fun F => by
    rw [← Fintype.sum_prod_type', ← (finProdFinEquiv (m := 3) (n := 256)).sum_comp F]
    refine Finset.sum_congr rfl fun p _ => congrArg F (Fin.ext ?_)
    show p.1.val * 256 + p.2.val = p.2.val + 256 * p.1.val
    omega
  have := e fun k => Scalar.select (IntOp.cmpi .eq (dest k) (BitVec.ofNat 32 n)) (f k) 0
  rw [Fin.sum_univ_three] at this
  exact this

end Cert.Quant

end
-- ==== Proof.Hand.RowsK.lean ====
/- One tile of the kernel read at a token: each value its body computes is the row function of `Rows`. -/
module

public import proofs.«01_k».proof.Proof.Hand.Vals
public import proofs.«01_k».proof.Proof.Hand.Rows
public import Idealize.ShloMosaic.Lib.Pointwise
public import Idealize.ShloMosaic.Lib.Pipeline.ValueKit

@[expose] public section

set_option maxRecDepth 16384

noncomputable section

namespace Cert.KernelIdeal.Hand

open Idealize.ShloMosaic
open Cert.KernelIdeal.Gen Cert.Quant

/-- The tile's weights are `W`. -/
structure Fits (I : Ins Ideal) (W : Wts) : Prop where
  g : ∀ j, I.x1 (ix2 0 j) = W.g j
  b : ∀ j, I.x2 (ix2 0 j) = W.b j
  w1 : ∀ k j, I.x3 (ix2 k j) = W.w1 k j
  s1 : ∀ j, I.x4 (ix2 0 j) = W.s1 j
  b1 : ∀ j, I.x5 (ix2 0 j) = W.b1 j
  w2 : ∀ k j, I.x6 (ix2 k j) = W.w2 k j
  s2 : ∀ j, I.x7 (ix2 0 j) = W.s2 j
  b2 : ∀ j, I.x8 (ix2 0 j) = W.b2 j

/-- Token `r` of the tile. -/
def Ins.tok (I : Ins Ideal) (r : Fin 256) : Fin 2048 → EReal := fun k => I.x0 (ix2 r k)

/-- Column `l` of chunk `a`. -/
def col (a : Fin 7) (l : Fin 1024) : Fin 7168 := ⟨a.val * 1024 + l.val, by have := l.isLt; omega⟩

namespace Fits

variable {I : Ins Ideal} {W : Wts} (H : Fits I W)
include H

theorem h_apply (r : Fin 256) (j : Fin 2048) : I.h (ix2 r j) = lnRow W (I.tok r) j := by
  pointwise [Ins.h, k0_pay4]
  simp only [mul_inv2048]
  rw [H.g, H.b]
  rfl

theorem mask_apply (r : Fin 256) (k : Fin 246) :
    I.mask (ix2 r k) = BitVec.ofBool (decide (rung k ≤ scaled (lnRow W (I.tok r)))) := by
  have e : scaled (lnRow W (I.tok r)) = scaled (fun j => I.h (ix2 r j)) := congrArg scaled (funext fun j => (H.h_apply r j).symm)
  rw [e]
  pointwise [Ins.mask, k0_pay5]
  rfl

theorem hs_apply (r : Fin 256) : I.hs (ix2 r 0) = hsRow W (I.tok r) := by
  refine Eq.trans ?_ (scale_eq _)
  pointwise [Ins.hs, k0_pay9, k0_pay8, k0_pay7, k0_pay6]
  simp only [H.mask_apply]
  rfl

theorem hsr_apply (r : Fin 256) : I.hsr (ix2 0 r) = hsRow W (I.tok r) := by
  refine Eq.trans ?_ (H.hs_apply r)
  pointwise [Ins.hsr, k0_pay11]
  rfl

theorem hc_apply (r : Fin 256) (j : Fin 2048) : I.hc (ix2 r j) = hcRow W (I.tok r) j := by
  have e : hcRow W (I.tok r) j = code (scaled (lnRow W (I.tok r))) (lnRow W (I.tok r) j) := rfl
  rw [e, code, ← inv_eq, ← H.h_apply r j]
  pointwise [Ins.hc, k0_pay10, k0_pay8, k0_pay7, k0_pay6]
  simp only [H.mask_apply]
  rfl

theorem w_0_apply (k : Fin 2048) (l : Fin 1024) : I.w_0 (ix2 k l) = W.w1 k (col 0 l) := by
  refine Eq.trans ?_ (H.w1 _ _)
  pointwise [Ins.w_0]
  exact congrArg (fun i => I.x3 (ix2 k i)) (Fin.ext (by simp [col]))

theorem s_0_apply (l : Fin 1024) : I.s_0 (ix2 0 l) = W.s1 (col 0 l) := by
  refine Eq.trans ?_ (H.s1 _)
  pointwise [Ins.s_0]
  exact congrArg (fun i => I.x4 (ix2 0 i)) (Fin.ext (by simp [col]))

theorem b_0_apply (l : Fin 1024) : I.b_0 (ix2 0 l) = W.b1 (col 0 l) := by
  refine Eq.trans ?_ (H.b1 _)
  pointwise [Ins.b_0]
  exact congrArg (fun i => I.x5 (ix2 0 i)) (Fin.ext (by simp [col]))

theorem w_1_apply (k : Fin 2048) (l : Fin 1024) : I.w_1 (ix2 k l) = W.w1 k (col 1 l) := by
  refine Eq.trans ?_ (H.w1 _ _)
  pointwise [Ins.w_1]
  exact congrArg (fun i => I.x3 (ix2 k i)) (Fin.ext (by simp [col]))

theorem s_1_apply (l : Fin 1024) : I.s_1 (ix2 0 l) = W.s1 (col 1 l) := by
  refine Eq.trans ?_ (H.s1 _)
  pointwise [Ins.s_1]
  exact congrArg (fun i => I.x4 (ix2 0 i)) (Fin.ext (by simp [col]))

theorem b_1_apply (l : Fin 1024) : I.b_1 (ix2 0 l) = W.b1 (col 1 l) := by
  refine Eq.trans ?_ (H.b1 _)
  pointwise [Ins.b_1]
  exact congrArg (fun i => I.x5 (ix2 0 i)) (Fin.ext (by simp [col]))

theorem w_2_apply (k : Fin 2048) (l : Fin 1024) : I.w_2 (ix2 k l) = W.w1 k (col 2 l) := by
  refine Eq.trans ?_ (H.w1 _ _)
  pointwise [Ins.w_2]
  exact congrArg (fun i => I.x3 (ix2 k i)) (Fin.ext (by simp [col]))

theorem s_2_apply (l : Fin 1024) : I.s_2 (ix2 0 l) = W.s1 (col 2 l) := by
  refine Eq.trans ?_ (H.s1 _)
  pointwise [Ins.s_2]
  exact congrArg (fun i => I.x4 (ix2 0 i)) (Fin.ext (by simp [col]))

theorem b_2_apply (l : Fin 1024) : I.b_2 (ix2 0 l) = W.b1 (col 2 l) := by
  refine Eq.trans ?_ (H.b1 _)
  pointwise [Ins.b_2]
  exact congrArg (fun i => I.x5 (ix2 0 i)) (Fin.ext (by simp [col]))

theorem w_3_apply (k : Fin 2048) (l : Fin 1024) : I.w_3 (ix2 k l) = W.w1 k (col 3 l) := by
  refine Eq.trans ?_ (H.w1 _ _)
  pointwise [Ins.w_3]
  exact congrArg (fun i => I.x3 (ix2 k i)) (Fin.ext (by simp [col]))

theorem s_3_apply (l : Fin 1024) : I.s_3 (ix2 0 l) = W.s1 (col 3 l) := by
  refine Eq.trans ?_ (H.s1 _)
  pointwise [Ins.s_3]
  exact congrArg (fun i => I.x4 (ix2 0 i)) (Fin.ext (by simp [col]))

theorem b_3_apply (l : Fin 1024) : I.b_3 (ix2 0 l) = W.b1 (col 3 l) := by
  refine Eq.trans ?_ (H.b1 _)
  pointwise [Ins.b_3]
  exact congrArg (fun i => I.x5 (ix2 0 i)) (Fin.ext (by simp [col]))

theorem w_4_apply (k : Fin 2048) (l : Fin 1024) : I.w_4 (ix2 k l) = W.w1 k (col 4 l) := by
  refine Eq.trans ?_ (H.w1 _ _)
  pointwise [Ins.w_4]
  exact congrArg (fun i => I.x3 (ix2 k i)) (Fin.ext (by simp [col]))

theorem s_4_apply (l : Fin 1024) : I.s_4 (ix2 0 l) = W.s1 (col 4 l) := by
  refine Eq.trans ?_ (H.s1 _)
  pointwise [Ins.s_4]
  exact congrArg (fun i => I.x4 (ix2 0 i)) (Fin.ext (by simp [col]))

theorem b_4_apply (l : Fin 1024) : I.b_4 (ix2 0 l) = W.b1 (col 4 l) := by
  refine Eq.trans ?_ (H.b1 _)
  pointwise [Ins.b_4]
  exact congrArg (fun i => I.x5 (ix2 0 i)) (Fin.ext (by simp [col]))

theorem w_5_apply (k : Fin 2048) (l : Fin 1024) : I.w_5 (ix2 k l) = W.w1 k (col 5 l) := by
  refine Eq.trans ?_ (H.w1 _ _)
  pointwise [Ins.w_5]
  exact congrArg (fun i => I.x3 (ix2 k i)) (Fin.ext (by simp [col]))

theorem s_5_apply (l : Fin 1024) : I.s_5 (ix2 0 l) = W.s1 (col 5 l) := by
  refine Eq.trans ?_ (H.s1 _)
  pointwise [Ins.s_5]
  exact congrArg (fun i => I.x4 (ix2 0 i)) (Fin.ext (by simp [col]))

theorem b_5_apply (l : Fin 1024) : I.b_5 (ix2 0 l) = W.b1 (col 5 l) := by
  refine Eq.trans ?_ (H.b1 _)
  pointwise [Ins.b_5]
  exact congrArg (fun i => I.x5 (ix2 0 i)) (Fin.ext (by simp [col]))

theorem w_6_apply (k : Fin 2048) (l : Fin 1024) : I.w_6 (ix2 k l) = W.w1 k (col 6 l) := by
  refine Eq.trans ?_ (H.w1 _ _)
  pointwise [Ins.w_6]
  exact congrArg (fun i => I.x3 (ix2 k i)) (Fin.ext (by simp [col]))

theorem s_6_apply (l : Fin 1024) : I.s_6 (ix2 0 l) = W.s1 (col 6 l) := by
  refine Eq.trans ?_ (H.s1 _)
  pointwise [Ins.s_6]
  exact congrArg (fun i => I.x4 (ix2 0 i)) (Fin.ext (by simp [col]))

theorem b_6_apply (l : Fin 1024) : I.b_6 (ix2 0 l) = W.b1 (col 6 l) := by
  refine Eq.trans ?_ (H.b1 _)
  pointwise [Ins.b_6]
  exact congrArg (fun i => I.x5 (ix2 0 i)) (Fin.ext (by simp [col]))

theorem g0_apply (r : Fin 256) (l : Fin 1024) : I.g0 (ix2 r l) = gRow W (I.tok r) (col 0 l) := by
  have hs : k0_pay9 (F := Ideal) I.mask k0_pay6 k0_pay7 (ix2 r 0) = hsRow W (I.tok r) := H.hs_apply r
  pointwise [Ins.g0, Ins.z0, k0_pay15, k0_pay14, k0_pay13]
  simp only [hs, H.hc_apply, H.hs_apply, H.w_0_apply, H.s_0_apply, H.b_0_apply]
  rfl

theorem g1_apply (r : Fin 256) (l : Fin 1024) : I.g1 (ix2 r l) = gRow W (I.tok r) (col 1 l) := by
  pointwise [Ins.g1, k0_pay22, k0_pay21, Ins.u1, Ins.e1, k0_pay20, k0_pay19, k0_pay18, k0_pay17]
  simp only [H.hc_apply, H.hs_apply, H.w_1_apply, H.s_1_apply, H.b_1_apply]
  rfl

theorem g2_apply (r : Fin 256) (l : Fin 1024) : I.g2 (ix2 r l) = gRow W (I.tok r) (col 2 l) := by
  pointwise [Ins.g2, k0_pay24, k0_pay23]
  simp only [H.hc_apply, H.hs_apply, H.w_2_apply, H.s_2_apply, H.b_2_apply]
  rfl

theorem g3_apply (r : Fin 256) (l : Fin 1024) : I.g3 (ix2 r l) = gRow W (I.tok r) (col 3 l) := by
  pointwise [Ins.g3, k0_pay28, k0_pay27, k0_pay26]
  simp only [H.hc_apply, H.hs_apply, H.w_3_apply, H.s_3_apply, H.b_3_apply]
  rfl

theorem g4_apply (r : Fin 256) (l : Fin 1024) : I.g4 (ix2 r l) = gRow W (I.tok r) (col 4 l) := by
  pointwise [Ins.g4, Ins.z4, k0_pay32, k0_pay31, k0_pay30]
  simp only [H.hc_apply, H.hs_apply, H.w_4_apply, H.s_4_apply, H.b_4_apply]
  rfl

theorem g5_apply (r : Fin 256) (l : Fin 1024) : I.g5 (ix2 r l) = gRow W (I.tok r) (col 5 l) := by
  pointwise [Ins.g5, k0_pay35, k0_pay34]
  simp only [H.hc_apply, H.hs_apply, H.w_5_apply, H.s_5_apply, H.b_5_apply]
  rfl

theorem g6_apply (r : Fin 256) (l : Fin 1024) : I.g6 (ix2 r l) = gRow W (I.tok r) (col 6 l) := by
  pointwise [Ins.g6, k0_pay37, k0_pay36]
  simp only [H.hc_apply, H.hs_apply, H.w_6_apply, H.s_6_apply, H.b_6_apply]
  rfl

end Fits

end Cert.KernelIdeal.Hand
-- ==== Proof.Hand.RowsK2.lean ====
/- One tile of the kernel read at a token, continued: the row maxima of the activation, its codes, and the output
   rows. -/
module

public import proofs.«01_k».proof.Proof.Hand.RowsK

@[expose] public section

set_option maxRecDepth 16384

noncomputable section

namespace Cert.KernelIdeal.Hand

open Idealize.ShloMosaic
open Cert.KernelIdeal.Gen Cert.Quant

namespace Fits

variable {I : Ins Ideal} {W : Wts} (H : Fits I W)
include H

theorem m0_apply (r : Fin 256) : I.m0 (ix2 r 0) = max 0 (Finset.fold max kBot (fun l => FloatOps.absf (F := Ideal) (φ := .f32) (I.g0 (ix2 r l))) Finset.univ) := by
  have e : I.g0 = k0_pay14 I.z0 I.s_0 I.b_0 := by
    funext j; idx_vars j; pointwise [Ins.g0, k0_pay15]
  rw [e]
  pointwise [Ins.m0, k0_pay16, k0_pay12]

theorem m2_apply (r : Fin 256) : I.m2 (ix2 r 0) = max (max (I.m0 (ix2 r 0))
      (Finset.fold max kBot (fun l => FloatOps.absf (F := Ideal) (φ := .f32) (I.g1 (ix2 r l))) Finset.univ))
      (Finset.fold max kBot (fun l => FloatOps.absf (F := Ideal) (φ := .f32) (I.g2 (ix2 r l))) Finset.univ) := by
  have e1 : I.g1 = k0_pay21 I.u1 I.e1 (k0_pay20 (F := Ideal)) := by
    funext j; idx_vars j; pointwise [Ins.g1, k0_pay22]
  have e2 : I.g2 = k0_pay23 I.hs I.hc I.w_2 I.s_2 I.b_2 := by
    funext j; idx_vars j; pointwise [Ins.g2, k0_pay24]
  rw [e1, e2]
  pointwise [Ins.m2, k0_pay25]

theorem m3_apply (r : Fin 256) : I.m3 (ix2 r 0) = max (I.m2 (ix2 r 0))
      (Finset.fold max kBot (fun l => FloatOps.absf (F := Ideal) (φ := .f32) (I.g3 (ix2 r l))) Finset.univ) := by
  have e : I.g3 = k0_pay27 I.hs (k0_pay26 I.hc) I.w_3 I.s_3 I.b_3 := by
    funext j; idx_vars j; pointwise [Ins.g3, k0_pay28]
  rw [e]
  pointwise [Ins.m3, k0_pay29]

theorem m4_apply (r : Fin 256) : I.m4 (ix2 r 0) = max (I.m3 (ix2 r 0))
      (Finset.fold max kBot (fun l => FloatOps.absf (F := Ideal) (φ := .f32) (I.g4 (ix2 r l))) Finset.univ) := by
  have e : I.g4 = k0_pay31 I.z4 := by
    funext j; idx_vars j; pointwise [Ins.g4, k0_pay32]
  rw [e]
  pointwise [Ins.m4, k0_pay33]

theorem amax_rows (r : Fin 256) (k : Fin 246) : I.amax (ix2 r k) = max (max (I.m4 (ix2 r 0))
      (Finset.fold max kBot (fun l => FloatOps.absf (F := Ideal) (φ := .f32) (I.g5 (ix2 r l))) Finset.univ))
      (Finset.fold max kBot (fun l => FloatOps.absf (F := Ideal) (φ := .f32) (I.g6 (ix2 r l))) Finset.univ) * kInv448 := by
  have e5 : I.g5 = I.q5 := by
    funext j; idx_vars j; pointwise [Ins.g5, Ins.q5, k0_pay35]
  have e6 : I.g6 = k0_pay36 I.hs I.hc I.w_6 I.s_6 I.b_6 := by
    funext j; idx_vars j; pointwise [Ins.g6, k0_pay37]
  rw [e5, e6]
  pointwise [Ins.amax, k0_pay39]

/-- The chunks' running maximum is the whole row's. -/
theorem amax_apply (r : Fin 256) (k : Fin 246) : I.amax (ix2 r k) = scaled (gRow W (I.tok r)) := by
  rw [H.amax_rows, H.m4_apply, H.m3_apply, H.m2_apply, H.m0_apply]
  refine congrArg (· * kInv448) ?_
  simp only [H.g0_apply, H.g1_apply, H.g2_apply, H.g3_apply, H.g4_apply, H.g5_apply, H.g6_apply]
  exact max_chunks (fun j => FloatOps.absf (F := Ideal) (φ := .f32) (gRow W (I.tok r) j)) (fun j => absf_nonneg _)
    (fun a l => FloatOps.absf (F := Ideal) (φ := .f32) (gRow W (I.tok r) (col a l))) (fun a l => rfl)

omit H in
/-- The exponent word, from the row's maximum over 448. -/
theorem word_of {A : FVec Ideal S256x246 .f32} {R : EReal} (r : Fin 256) (hA : ∀ k, A (ix2 r k) = R) :
    k0_pay40 (k0_pay38 (F := Ideal)) A (ix2 r 0) = word R := by
  have e : k0_pay40 (k0_pay38 (F := Ideal)) A = k0_pay8 (cmpf .oge A (k0_pay38 (F := Ideal))) k0_pay6 k0_pay7 := rfl
  have hm : ∀ k, cmpf .oge A (k0_pay38 (F := Ideal)) (ix2 r k) = BitVec.ofBool (decide (rung k ≤ R)) := fun k => by
    rw [← hA k]
    pointwise [k0_pay38]
    rfl
  rw [e]
  generalize cmpf .oge A (k0_pay38 (F := Ideal)) = M at hm
  pointwise [k0_pay8, k0_pay7, k0_pay6]
  simp only [hm]
  rfl

omit H in
/-- The activation's scale, from the row's maximum over 448. -/
theorem scale_of {A : FVec Ideal S256x246 .f32} {R : EReal} (r : Fin 256) (hA : ∀ k, A (ix2 r k) = R) :
    k0_pay41 (k0_pay38 (F := Ideal)) A (ix2 r 0) = scale R := by
  refine Eq.trans ?_ (scale_eq R)
  rw [← word_of r hA]
  pointwise [k0_pay41]

omit H in
/-- The activation's codes, from the row's maximum over 448. -/
theorem code_of {A : FVec Ideal S256x246 .f32} {R : EReal} {v : Vec Ideal S256x7168 .f32} (r : Fin 256) (hA : ∀ k, A (ix2 r k) = R) (j : Fin 7168) :
    k0_pay43 (k0_pay38 (F := Ideal)) A v (ix2 r j) = code R (v (ix2 r j)) := by
  rw [code, ← inv_eq, ← word_of r hA]
  pointwise [k0_pay43]

theorem gs_apply (r : Fin 256) : I.gs (ix2 r 0) = gsRow W (I.tok r) :=
  scale_of r (H.amax_apply r)

theorem gsr_apply (r : Fin 256) : I.gsr (ix2 0 r) = gsRow W (I.tok r) := by
  refine Eq.trans ?_ (H.gs_apply r)
  pointwise [Ins.gsr, k0_pay42]
  rfl

omit H in
/-- A chunk's store agrees with a function of the whole row that its values are taken from. -/
theorem piece_eq {G : S256x7168.Idx → EReal} {o : ℕ} (a : Fin 7) (ho : o = a.val * 1024)
    (inb : ∀ c, (![0, o] : Fin 2 → ℕ) c + S256x1024.size c ≤ S256x7168.size c) {g : FVec Ideal S256x1024 .f32}
    (hg : ∀ r l, g (ix2 r l) = G (ix2 r (col a l))) (x : S256x1024.Idx) :
    g x = G ((Rect.unit (s := S256x7168) ![0, o] S256x1024.size inb).emb x) := by
  obtain ⟨r, l, rfl⟩ : ∃ (r : Fin 256) (l : Fin 1024), x = ix2 r l := ⟨x 0, x 1, eq_ix2 x⟩
  rw [hg]
  refine congrArg G (funext fun c => Fin.ext ?_)
  subst ho
  match c with
  | 0 => show r.val = 0 + 1 * r.val; omega
  | 1 => show a.val * 1024 + l.val = a.val * 1024 + 1 * l.val; omega

/-- The activation scratch holds the whole row. -/
theorem gf_apply (r : Fin 256) (j : Fin 7168) : I.gf (ix2 r j) = gRow W (I.tok r) j := by
  refine View.canon_apply_of_pieces (Val := Elt Ideal) (fun (i : S256x7168.Idx) => gRow W (I.tok (i 0)) (i 1)) I.gfL ?_ (ix2 r j) ?_
  · intro p hp
    simp only [Ins.gfL, List.mem_cons, List.not_mem_nil, or_false] at hp
    rcases hp with rfl | rfl | rfl | rfl | rfl | rfl | rfl
    · exact piece_eq (G := fun i => gRow W (I.tok (i 0)) (i 1)) 6 rfl inb_S256x7168_S256x1024_0_6144 H.g6_apply
    · exact piece_eq (G := fun i => gRow W (I.tok (i 0)) (i 1)) 5 rfl inb_S256x7168_S256x1024_0_5120 H.g5_apply
    · exact piece_eq (G := fun i => gRow W (I.tok (i 0)) (i 1)) 4 rfl inb_S256x7168_S256x1024_0_4096 H.g4_apply
    · exact piece_eq (G := fun i => gRow W (I.tok (i 0)) (i 1)) 3 rfl inb_S256x7168_S256x1024_0_3072 H.g3_apply
    · exact piece_eq (G := fun i => gRow W (I.tok (i 0)) (i 1)) 2 rfl inb_S256x7168_S256x1024_0_2048 H.g2_apply
    · exact piece_eq (G := fun i => gRow W (I.tok (i 0)) (i 1)) 1 rfl inb_S256x7168_S256x1024_0_1024 H.g1_apply
    · exact piece_eq (G := fun i => gRow W (I.tok (i 0)) (i 1)) 0 rfl inb_S256x7168_S256x1024_0_0 H.g0_apply
  · have key : ∀ (o : ℕ) (inb : ∀ c, (![0, o] : Fin 2 → ℕ) c + S256x1024.size c ≤ S256x7168.size c), o ≤ j.val → j.val < o + 1024 →
        (ix2 r j : S256x7168.Idx) ∈ (Rect.unit (s := S256x7168) ![0, o] S256x1024.size inb).set := by
      intro o inb h1 h2
      refine Rect.mem_set_unit.mpr fun c => ?_
      match c with
      | 0 => exact ⟨Nat.zero_le _, by show r.val < 0 + 256; omega⟩
      | 1 => exact ⟨h1, h2⟩
    have hj := j.isLt
    have : j.val / 1024 < 7 := by omega
    rw [Ins.gfL]
    rcases (by omega : 6144 ≤ j.val ∨ (5120 ≤ j.val ∧ j.val < 6144) ∨ (4096 ≤ j.val ∧ j.val < 5120) ∨ (3072 ≤ j.val ∧ j.val < 4096)
      ∨ (2048 ≤ j.val ∧ j.val < 3072) ∨ (1024 ≤ j.val ∧ j.val < 2048) ∨ j.val < 1024) with h | h | h | h | h | h | h
    · exact ⟨_, List.mem_cons_self, key 6144 inb_S256x7168_S256x1024_0_6144 h (by omega)⟩
    · exact ⟨_, .tail _ List.mem_cons_self, key 5120 inb_S256x7168_S256x1024_0_5120 h.1 (by omega)⟩
    · exact ⟨_, .tail _ (.tail _ List.mem_cons_self), key 4096 inb_S256x7168_S256x1024_0_4096 h.1 (by omega)⟩
    · exact ⟨_, .tail _ (.tail _ (.tail _ List.mem_cons_self)), key 3072 inb_S256x7168_S256x1024_0_3072 h.1 (by omega)⟩
    · exact ⟨_, .tail _ (.tail _ (.tail _ (.tail _ List.mem_cons_self))), key 2048 inb_S256x7168_S256x1024_0_2048 h.1 (by omega)⟩
    · exact ⟨_, .tail _ (.tail _ (.tail _ (.tail _ (.tail _ List.mem_cons_self)))), key 1024 inb_S256x7168_S256x1024_0_1024 h.1 (by omega)⟩
    · exact ⟨_, .tail _ (.tail _ (.tail _ (.tail _ (.tail _ (.tail _ List.mem_cons_self))))), key 0 inb_S256x7168_S256x1024_0_0 (by omega) (by omega)⟩

theorem gc_apply (r : Fin 256) (j : Fin 7168) : I.gc (ix2 r j) = gcRow W (I.tok r) j :=
  (code_of r (H.amax_apply r) j).trans (congrArg (code _) (H.gf_apply r j))

theorem y_apply (r : Fin 256) (j : Fin 2048) : I.y (ix2 r j) = yRow W (I.tok r) j := by
  pointwise [Ins.y, k0_pay45, k0_pay44]
  simp only [H.gc_apply, H.gs_apply, H.w2, H.s2, H.b2]
  rfl

end Fits

end Cert.KernelIdeal.Hand
-- ==== Proof.Hand.RowsM.lean ====
/- The kernel's merge read at a slot: one step adds the tile's part of the slot's sums, three steps add all of it. -/
module

public import proofs.«01_k».proof.Proof.Hand.Vals
public import proofs.«01_k».proof.Proof.Hand.Rows
public import Idealize.ShloMosaic.Lib.Pointwise

@[expose] public section

set_option maxRecDepth 16384

noncomputable section

namespace Cert.KernelIdeal.Hand

open Idealize.ShloMosaic
open Cert.KernelIdeal.Gen Cert.Quant

/-- The kernel asks whether the slot is the destination, the reference whether the destination is the slot. -/
theorem hit_comm (a b : BitVec 32) : IntOp.cmpi .eq a b = IntOp.cmpi .eq b a := by
  by_cases h : a = b
  · rw [h]
  · have e1 : (a == b) = false := beq_eq_false_iff_ne.mpr h
    have e2 : (b == a) = false := beq_eq_false_iff_ne.mpr (Ne.symm h)
    simp [IntOp.cmpi, e1, e2]

theorem select_zero (c : BitVec 1) : Scalar.select c (0 : EReal) 0 = 0 := by
  simp [Scalar.select]

theorem sstep_raw (row : Vec Ideal S1x256 .f32) (dst : Vec Ideal S1x256 .i32) (s : Vec Ideal S576x128 .f32) (n : Fin 576) (l : Fin 128) :
    k0_pay50 row dst s (ix2 n l) = s (ix2 n l)
      + ∑ k : Fin 256, Scalar.select (IntOp.cmpi .eq (dst (ix2 0 k)) (BitVec.ofNat 32 n)) (row (ix2 0 k)) 0 := by
  pointwise [k0_pay50, k0_pay48]
  simp only [hit_comm (BitVec.ofNat 32 n)]

theorem xstep_raw (row : Vec Ideal S1x256 .f32) (dst : Vec Ideal S1x256 .i32) (y : FVec Ideal S256x2048 .f32) (x : Vec Ideal S576x2048 .f32)
    (n : Fin 576) (j : Fin 2048) (hr : ∀ k, Real' (row (ix2 0 k))) (hy : ∀ k, Real' (y (ix2 k j))) :
    k0_pay1 y (k0_pay49 dst) (k0_pay51 row) x (ix2 n j) = x (ix2 n j)
      + ∑ k : Fin 256, Scalar.select (IntOp.cmpi .eq (dst (ix2 0 k)) (BitVec.ofNat 32 n)) (row (ix2 0 k) * y (ix2 k j)) 0 := by
  have h0 : ∀ k, row (ix2 0 k) * y (ix2 k j) - row (ix2 0 k) * y (ix2 k j) = 0 := fun k => ((hr k).mul (hy k)).sub_self
  pointwise [k0_pay1, k0_pay49, k0_pay51, k0_pay48]
  simp only [hit_comm (BitVec.ofNat 32 n), h0, sub_zero, select_zero, Finset.sum_const_zero, zero_add]

theorem sout_apply (s : Vec Ideal S576x128 .f32) (n : Fin 576) : sout s (ix2 0 n) = s (ix2 n 0) := by
  pointwise [sout, scol, k0_pay2]

theorem xout_apply (s : Vec Ideal S576x128 .f32) (x : Vec Ideal S576x2048 .f32) (n : Fin 576) (j : Fin 2048) :
    xout s x (ix3 0 n j) = merged (x (ix2 n j)) (s (ix2 n 0)) := by
  pointwise [xout, scol, k0_pay3]
  rfl

end Cert.KernelIdeal.Hand
-- ==== Proof.Hand.Whole.lean ====
/- The six results as arrays over the whole batch: each element is the row function of `Rows` of its token's row. -/
module

public import proofs.«01_k».proof.Proof.Hand.Rows

@[expose] public section

noncomputable section

namespace Cert.Quant

open Idealize.ShloMosaic

/-- The shapes of the arrays. -/
abbrev Srow : Shape := ⟨2, ![1, 2048]⟩
@[inherit_doc Srow] abbrev Swide : Shape := ⟨2, ![1, 7168]⟩
@[inherit_doc Srow] abbrev Sw1 : Shape := ⟨2, ![2048, 7168]⟩
@[inherit_doc Srow] abbrev Sw2 : Shape := ⟨2, ![7168, 2048]⟩
@[inherit_doc Srow] abbrev Sx : Shape := ⟨2, ![1536, 2048]⟩
@[inherit_doc Srow] abbrev Sg : Shape := ⟨2, ![1536, 7168]⟩
@[inherit_doc Srow] abbrev Stok : Shape := ⟨2, ![2, 768]⟩
@[inherit_doc Srow] abbrev Sslot : Shape := ⟨2, ![2, 576]⟩
@[inherit_doc Srow] abbrev Sout : Shape := ⟨3, ![2, 576, 2048]⟩

/-- The weights, read off the argument arrays. -/
def wts (g b : Srow.Idx → EReal) (w1 : Sw1.Idx → EReal) (s1 b1 : Swide.Idx → EReal) (w2 : Sw2.Idx → EReal) (s2 b2 : Srow.Idx → EReal) : Wts where
  g j := g (ix2 0 j)
  b j := b (ix2 0 j)
  w1 k j := w1 (ix2 k j)
  s1 j := s1 (ix2 0 j)
  b1 j := b1 (ix2 0 j)
  w2 k j := w2 (ix2 k j)
  s2 j := s2 (ix2 0 j)
  b2 j := b2 (ix2 0 j)

/-- Token `k` of batch `b`, among all tokens. -/
def flat (b : Fin 2) (k : Fin 768) : Fin 1536 := ⟨b.val * 768 + k.val, by omega⟩

/-- A token's row. -/
def rowOf (x : Sx.Idx → EReal) (r : Fin 1536) : Fin 2048 → EReal := fun k => x (ix2 r k)

variable (W : Wts) (x : Sx.Idx → EReal) (sz : Stok.Idx → EReal) (d : Stok.Idx → BitVec 32)

/-- The codes of the normed rows, -/
def hcA : Sx.Idx → EReal := fun i => hcRow W (rowOf x (i 0)) (i 1)
/-- their scales, -/
def hsA : Stok.Idx → EReal := fun i => hsRow W (rowOf x (flat (i 0) (i 1)))
/-- the codes of the activation, -/
def gcA : Sg.Idx → EReal := fun i => gcRow W (rowOf x (i 0)) (i 1)
/-- their scales, -/
def gsA : Stok.Idx → EReal := fun i => gsRow W (rowOf x (flat (i 0) (i 1)))
/-- the slots' sizes, -/
def szA : Sslot.Idx → EReal := fun i => slotSum (fun k => d (ix2 (i 0) k)) (fun k => sz (ix2 (i 0) k)) (i 1).val
/-- and the merged rows. -/
def outA : Sout.Idx → EReal := fun i =>
  merged (slotSum (fun k => d (ix2 (i 0) k)) (fun k => sz (ix2 (i 0) k) * yRow W (rowOf x (flat (i 0) k)) (i 2)) (i 1).val)
    (slotSum (fun k => d (ix2 (i 0) k)) (fun k => sz (ix2 (i 0) k)) (i 1).val)

end Cert.Quant

end
-- ==== Proof.Hand.ArrK.lean ====
/- The kernel's blocks, as parts of the argument arrays, and what the accumulators hold when a batch of tokens ends. -/
module

public import proofs.«01_k».proof.Proof.Hand.Data
public import proofs.«01_k».proof.Proof.Hand.RowsK2
public import proofs.«01_k».proof.Proof.Hand.RowsM
public import proofs.«01_k».proof.Proof.Hand.Whole
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Quant

variable (m : (ℓ : Loc nD τ sig) → Buf (Elt Ideal) ℓ)

theorem lt6 (t : Fin cfg0.N) : t.val < 6 := Nat.lt_of_lt_of_eq t.isLt N_0

/-! ## The blocks -/

theorem idx_0 : ∀ t : Fin cfg0.N, win0_0.index t = ![t.val, 0] := (by decide +kernel : ∀ t : Fin grid0.N, win0_0.index t = ![t.val, 0])

/-- Token `r` of point `t`, among all tokens. -/
def tokAt (t : Fin cfg0.N) (r : Fin 256) : Fin 1536 := ⟨t.val * 256 + r.val, by have := lt6 t; omega⟩

theorem iblk_0 (c : Dev nD) (t : Fin cfg0.N) (r : Fin 256) (k : Fin 2048) :
    iblk m c 0 t (ix2 r k) = m ((c : Thread nD τ).loc main_arg0) (ix2 (tokAt t r) k) := by
  blk_simp [iblk, V]
  blk_ext [iblk, V, idx_0 t, tokAt]

theorem idx_1 : ∀ t : Fin cfg0.N, win0_1.index t = ![0, 0] := (by decide +kernel : ∀ t : Fin grid0.N, win0_1.index t = ![0, 0])
theorem iblk_1 (c : Dev nD) (t : Fin cfg0.N) : iblk m c 1 t = m ((c : Thread nD τ).loc main_arg3) := by
  funext y
  blk_simp [iblk, V]
  blk_ext [iblk, V, idx_1 t]

theorem idx_2 : ∀ t : Fin cfg0.N, win0_2.index t = ![0, 0] := (by decide +kernel : ∀ t : Fin grid0.N, win0_2.index t = ![0, 0])
theorem iblk_2 (c : Dev nD) (t : Fin cfg0.N) : iblk m c 2 t = m ((c : Thread nD τ).loc main_arg4) := by
  funext y
  blk_simp [iblk, V]
  blk_ext [iblk, V, idx_2 t]

theorem idx_3 : ∀ t : Fin cfg0.N, win0_3.index t = ![0, 0] := (by decide +kernel : ∀ t : Fin grid0.N, win0_3.index t = ![0, 0])
theorem iblk_3 (c : Dev nD) (t : Fin cfg0.N) : iblk m c 3 t = m ((c : Thread nD τ).loc main_arg5) := by
  funext y
  blk_simp [iblk, V]
  blk_ext [iblk, V, idx_3 t]

theorem idx_4 : ∀ t : Fin cfg0.N, win0_4.index t = ![0, 0] := (by decide +kernel : ∀ t : Fin grid0.N, win0_4.index t = ![0, 0])
theorem iblk_4 (c : Dev nD) (t : Fin cfg0.N) : iblk m c 4 t = m ((c : Thread nD τ).loc main_arg6) := by
  funext y
  blk_simp [iblk, V]
  blk_ext [iblk, V, idx_4 t]

theorem idx_5 : ∀ t : Fin cfg0.N, win0_5.index t = ![0, 0] := (by decide +kernel : ∀ t : Fin grid0.N, win0_5.index t = ![0, 0])
theorem iblk_5 (c : Dev nD) (t : Fin cfg0.N) : iblk m c 5 t = m ((c : Thread nD τ).loc main_arg7) := by
  funext y
  blk_simp [iblk, V]
  blk_ext [iblk, V, idx_5 t]

theorem idx_7 : ∀ t : Fin cfg0.N, win0_7.index t = ![0, 0] := (by decide +kernel : ∀ t : Fin grid0.N, win0_7.index t = ![0, 0])
theorem iblk_7 (c : Dev nD) (t : Fin cfg0.N) : iblk m c 7 t = m ((c : Thread nD τ).loc main_arg9) := by
  funext y
  blk_simp [iblk, V]
  blk_ext [iblk, V, idx_7 t]

theorem idx_8 : ∀ t : Fin cfg0.N, win0_8.index t = ![0, 0] := (by decide +kernel : ∀ t : Fin grid0.N, win0_8.index t = ![0, 0])
theorem iblk_8 (c : Dev nD) (t : Fin cfg0.N) : iblk m c 8 t = m ((c : Thread nD τ).loc main_arg10) := by
  funext y
  blk_simp [iblk, V]
  blk_ext [iblk, V, idx_8 t]

theorem idx_9 : ∀ t : Fin cfg0.N, win0_9.index t = ![0, 0] := (by decide +kernel : ∀ t : Fin grid0.N, win0_9.index t = ![0, 0])
theorem iblk_9 (c : Dev nD) (t : Fin cfg0.N) : iblk m c 9 t = m ((c : Thread nD τ).loc main_arg1) := by
  funext y
  blk_simp [iblk, V]
  blk_ext [iblk, V, idx_9 t]

theorem idx_10 : ∀ t : Fin cfg0.N, win0_10.index t = ![0, 0] := (by decide +kernel : ∀ t : Fin grid0.N, win0_10.index t = ![0, 0])
theorem iblk_10 (c : Dev nD) (t : Fin cfg0.N) : iblk m c 10 t = m ((c : Thread nD τ).loc main_arg2) := by
  funext y
  blk_simp [iblk, V]
  blk_ext [iblk, V, idx_10 t]

theorem idx_6 : ∀ t : Fin cfg0.N, win0_6.index t = ![0, 0] := (by decide +kernel : ∀ t : Fin grid0.N, win0_6.index t = ![0, 0])
/-- The second weight, which the host casts; over the extended reals a cast changes nothing. -/
theorem iblk_6 (c : Dev nD) (t : Fin cfg0.N) : (iblk m c 6 t : S7168x2048.Idx → EReal) = m ((c : Thread nD τ).loc main_arg8) := by
  funext y
  blk_simp [iblk, V]
  blk_ext [iblk, V, idx_6 t]

/-! ## What a point computes, in terms of the arguments -/

/-- The weights among the arguments. -/
abbrev WM (c : Dev nD) : Wts := wts (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8)) (m ((c : Thread nD τ).loc main_arg9)) (m ((c : Thread nD τ).loc main_arg10))
/-- The tokens' rows, -/
abbrev XA (c : Dev nD) : Sx.Idx → EReal := m ((c : Thread nD τ).loc main_arg0)
/-- their sizes, -/
abbrev ZA (c : Dev nD) : Stok.Idx → EReal := m ((c : Thread nD τ).loc main_arg1)
/-- and their slots. -/
abbrev DA (c : Dev nD) : Stok.Idx → BitVec 32 := m ((c : Thread nD τ).loc main_arg2)

theorem fits (c : Dev nD) (t : Fin cfg0.N) : Fits (insAt m c t) (WM m c) where
  g j := congrFun (iblk_1 m c t) (ix2 0 j)
  b j := congrFun (iblk_2 m c t) (ix2 0 j)
  w1 k j := congrFun (iblk_3 m c t) (ix2 k j)
  s1 j := congrFun (iblk_4 m c t) (ix2 0 j)
  b1 j := congrFun (iblk_5 m c t) (ix2 0 j)
  w2 k j := congrFun (iblk_6 m c t) (ix2 k j)
  s2 j := congrFun (iblk_7 m c t) (ix2 0 j)
  b2 j := congrFun (iblk_8 m c t) (ix2 0 j)

theorem tok_eq (c : Dev nD) (t : Fin cfg0.N) (r : Fin 256) : (insAt m c t).tok r = rowOf (XA m c) (tokAt t r) :=
  funext fun k => iblk_0 m c t r k

/-- The batch of a point, -/
def bat (t : Fin cfg0.N) : Fin 2 := ⟨t.val / 3, by have := lt6 t; omega⟩
/-- and a point's token among its batch's. -/
def colAt (t : Fin cfg0.N) (k : Fin 256) : Fin 768 := ⟨t.val % 3 * 256 + k.val, by omega⟩

theorem flat_eq (t : Fin cfg0.N) (k : Fin 256) : flat (bat t) (colAt t k) = tokAt t k :=
  Fin.ext (by show t.val / 3 * 768 + (t.val % 3 * 256 + k.val) = t.val * 256 + k.val; omega)

theorem rect1_emb (t : Fin cfg0.N) (k : Fin 256) : (rect1 t).emb (ix2 0 k) = ix2 (bat t) (colAt t k) := by
  funext a
  refine Fin.ext ?_
  fin_cases a
  · show k0_off1 (grid0.coords t) 0 + 1 * 0 = t.val / 3
    rw [off1_0]; omega
  · show k0_off1 (grid0.coords t) 1 + 1 * k.val = t.val % 3 * 256 + k.val
    rw [off1_1]; omega

theorem row_apply (c : Dev nD) (t : Fin cfg0.N) (k : Fin 256) : (insAt m c t).row (grid0.coords t) (ix2 0 k) = ZA m c (ix2 (bat t) (colAt t k)) := by
  rw [← rect1_emb]
  exact congrFun (iblk_9 m c t) _

theorem dst_apply (c : Dev nD) (t : Fin cfg0.N) (k : Fin 256) : (insAt m c t).dst (grid0.coords t) (ix2 0 k) = DA m c (ix2 (bat t) (colAt t k)) := by
  rw [← rect1_emb]
  exact congrFun (iblk_10 m c t) _

/-! ## The accumulators -/

/-- The finite arguments, as the claim supposes them. -/
structure Fin' (c : Dev nD) : Prop where
  x : ∀ i, Real' (XA m c i)
  z : ∀ i, Real' (ZA m c i)
  w2 : ∀ k j, Real' ((WM m c).w2 k j)
  s2 : ∀ j, Real' ((WM m c).s2 j)
  b2 : ∀ j, Real' ((WM m c).b2 j)

/-- A batch's slots, -/
abbrev dRow (c : Dev nD) (b : Fin 2) : Fin 768 → BitVec 32 := fun k => DA m c (ix2 b k)
/-- its sizes, -/
abbrev zRow (c : Dev nD) (b : Fin 2) : Fin 768 → EReal := fun k => ZA m c (ix2 b k)
/-- and its weighted rows. -/
abbrev wRow (c : Dev nD) (b : Fin 2) (j : Fin 2048) : Fin 768 → EReal := fun k => ZA m c (ix2 b k) * yRow (WM m c) (rowOf (XA m c) (flat b k)) j

/-- A point's place in its batch. -/
def part (t : Fin cfg0.N) : Fin 3 := ⟨t.val % 3, by omega⟩

theorem sstep_apply (c : Dev nD) (t : Fin cfg0.N) (s : Vec Ideal S576x128 .f32) (n : Fin 576) (l : Fin 128) :
    (insAt m c t).sstep (grid0.coords t) s (ix2 n l) = s (ix2 n l) + slotTile (dRow m c (bat t)) (zRow m c (bat t)) n.val (part t) := by
  refine (sstep_raw _ _ s n l).trans (congrArg (s (ix2 n l) + ·) (Finset.sum_congr rfl fun k _ => ?_))
  rw [row_apply, dst_apply]
  rfl

theorem xstep_apply (c : Dev nD) (H : Fin' m c) (t : Fin cfg0.N) (x : Vec Ideal S576x2048 .f32) (n : Fin 576) (j : Fin 2048) :
    (insAt m c t).xstep (grid0.coords t) x (ix2 n j) = x (ix2 n j) + slotTile (dRow m c (bat t)) (wRow m c (bat t) j) n.val (part t) := by
  have hy : ∀ k, (insAt m c t).y (ix2 k j) = yRow (WM m c) (rowOf (XA m c) (flat (bat t) (colAt t k))) j := fun k => by
    rw [(fits m c t).y_apply, tok_eq, flat_eq]
  refine (xstep_raw _ _ _ x n j (fun k => ?_) (fun k => ?_)).trans (congrArg (x (ix2 n j) + ·) (Finset.sum_congr rfl fun k _ => ?_))
  · rw [row_apply]; exact H.z _
  · rw [hy]; exact yRow_real _ _ (fun _ => H.x _) H.w2 H.s2 H.b2 j
  · rw [row_apply, dst_apply, hy]
    rfl

theorem zero46 (i : S576x2048.Idx) : (k0_pay46 (F := Ideal) i : EReal) = 0 := Ideal.ofBits_zero .f32
theorem zero47 (i : S576x128.Idx) : (k0_pay47 (F := Ideal) i : EReal) = 0 := Ideal.ofBits_zero .f32

/-- The points of a batch. -/
def pt (b : Fin 2) (a : Fin 3) : Fin cfg0.N := ⟨b.val * 3 + a.val, by have : cfg0.N = 6 := N_0; omega⟩

theorem bat_pt (b : Fin 2) (a : Fin 3) : bat (pt b a) = b := Fin.ext (by show (b.val * 3 + a.val) / 3 = b.val; omega)
theorem part_pt (b : Fin 2) (a : Fin 3) : part (pt b a) = a := Fin.ext (by show (b.val * 3 + a.val) % 3 = a.val; omega)

theorem sacc_pt (c : Dev nD) (b : Fin 2) (n : Fin 576) (l : Fin 128) :
    sacc m c (b.val * 3 + 3) (ix2 n l) = slotSum (dRow m c b) (zRow m c b) n.val := by
  have h0 : sacc m c (b.val * 3 + 1) (ix2 n l) = slotTile (dRow m c b) (zRow m c b) n.val 0 := by
    have e := congrFun (sacc_succ m c (pt b 0)) (ix2 n l)
    rw [if_pos (by show (b.val * 3 + 0) % 3 = 0; omega), sstep_apply, bat_pt, part_pt, zero47, zero_add] at e
    exact e
  have h1 : sacc m c (b.val * 3 + 2) (ix2 n l) = slotTile (dRow m c b) (zRow m c b) n.val 0 + slotTile (dRow m c b) (zRow m c b) n.val 1 := by
    have e := congrFun (sacc_succ m c (pt b 1)) (ix2 n l)
    rw [if_neg (by show ¬(b.val * 3 + 1) % 3 = 0; omega), sstep_apply, bat_pt, part_pt] at e
    exact e.trans (congrArg (· + _) h0)
  have e := congrFun (sacc_succ m c (pt b 2)) (ix2 n l)
  rw [if_neg (by show ¬(b.val * 3 + 2) % 3 = 0; omega), sstep_apply, bat_pt, part_pt] at e
  exact (e.trans (congrArg (· + _) h1)).trans (slotSum_tiles _ _ _)

theorem xacc_pt (c : Dev nD) (H : Fin' m c) (b : Fin 2) (n : Fin 576) (j : Fin 2048) :
    xacc m c (b.val * 3 + 3) (ix2 n j) = slotSum (dRow m c b) (wRow m c b j) n.val := by
  have h0 : xacc m c (b.val * 3 + 1) (ix2 n j) = slotTile (dRow m c b) (wRow m c b j) n.val 0 := by
    have e := congrFun (xacc_succ m c (pt b 0)) (ix2 n j)
    rw [if_pos (by show (b.val * 3 + 0) % 3 = 0; omega), xstep_apply m c H, bat_pt, part_pt, zero46, zero_add] at e
    exact e
  have h1 : xacc m c (b.val * 3 + 2) (ix2 n j) = slotTile (dRow m c b) (wRow m c b j) n.val 0 + slotTile (dRow m c b) (wRow m c b j) n.val 1 := by
    have e := congrFun (xacc_succ m c (pt b 1)) (ix2 n j)
    rw [if_neg (by show ¬(b.val * 3 + 1) % 3 = 0; omega), xstep_apply m c H, bat_pt, part_pt] at e
    exact e.trans (congrArg (· + _) h0)
  have e := congrFun (xacc_succ m c (pt b 2)) (ix2 n j)
  rw [if_neg (by show ¬(b.val * 3 + 2) % 3 = 0; omega), xstep_apply m c H, bat_pt, part_pt] at e
  exact (e.trans (congrArg (· + _) h1)).trans (slotSum_tiles _ _ _)

end Cert.KernelIdeal.Hand

end
-- ==== Proof.Hand.ArrK2.lean ====
/- The kernel's results after its run, as the arrays of `Whole`. -/
module

public import proofs.«01_k».proof.Proof.Hand.Body
public import proofs.«01_k».proof.Proof.Hand.ArrK
public import Idealize.ShloMosaic.Lib.Pipeline.ArrRel

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Quant

variable (m : (ℓ : Loc nD τ sig) → Buf (Elt Ideal) ℓ)
variable {r : PUnit × MemSt nD τ sig (Elt Ideal)} (h : Pipeline.RDat.FramePost (cfgs 0) (rdat m) (V m) r) (c : Dev nD)

theorem hc_eq (t : Fin cfg0.N) (y : S256x2048.Idx) : (insAt m c t).hc y = hcA (WM m c) (XA m c) (ix2 (tokAt t (y 0)) (y 1)) := by
  obtain ⟨p, j, rfl⟩ : ∃ (p : Fin 256) (j : Fin 2048), y = ix2 p j := ⟨y 0, y 1, eq_ix2 y⟩
  refine ((fits m c t).hc_apply p j).trans ?_
  rw [tok_eq]
  rfl

theorem gc_eq (t : Fin cfg0.N) (y : S256x7168.Idx) : (insAt m c t).gc y = gcA (WM m c) (XA m c) (ix2 (tokAt t (y 0)) (y 1)) := by
  obtain ⟨p, j, rfl⟩ : ∃ (p : Fin 256) (j : Fin 7168), y = ix2 p j := ⟨y 0, y 1, eq_ix2 y⟩
  refine ((fits m c t).gc_apply p j).trans ?_
  rw [tok_eq]
  rfl

theorem idx_13 : ∀ t : Fin cfg0.N, win0_13.index t = ![t.val, 0] := (by decide +kernel : ∀ t : Fin grid0.N, win0_13.index t = ![t.val, 0])
theorem idx_15 : ∀ t : Fin cfg0.N, win0_15.index t = ![t.val, 0] := (by decide +kernel : ∀ t : Fin grid0.N, win0_15.index t = ![t.val, 0])
theorem idx_11 : ∀ t : Fin cfg0.N, win0_11.index t = ![t.val / 3, 0, 0] := (by decide +kernel : ∀ t : Fin grid0.N, win0_11.index t = ![t.val / 3, 0, 0])

include h in
theorem final_13 : r.2.mem ((c : Thread nD τ).loc main_v1_2) = hcA (WM m c) (XA m c) := by
  obtain ⟨after, hL, hA⟩ := h.exists_exact c
  refine (hA 13).trans (Dat.arrAt_eq_of_covers _ 13 _ (by decide +kernel) fun t hf y => ?_)
  have e : after 13 t = (insAt m c t).hc := Dat.toRRel_leaves (w := 13) (dats m 0 c) rfl (hL 13 t hf)
  blk_simp
  rw [Pipeline.RDat.withAfter_after, e, hc_eq]
  blk_ext [idx_13 t, tokAt]

include h in
theorem final_15 : r.2.mem ((c : Thread nD τ).loc main_v1_4) = gcA (WM m c) (XA m c) := by
  obtain ⟨after, hL, hA⟩ := h.exists_exact c
  refine (hA 15).trans (Dat.arrAt_eq_of_covers _ 15 _ (by decide +kernel) fun t hf y => ?_)
  have e : after 15 t = (insAt m c t).gc := Dat.toRRel_leaves (w := 15) (dats m 0 c) rfl (hL 15 t hf)
  blk_simp
  rw [Pipeline.RDat.withAfter_after, e, gc_eq]
  blk_ext [idx_15 t, tokAt]

/-- Every two-row index of 768 is a point's part of a row. -/
theorem strip_all {G : (u : Fin cfg0.N) → Vec Ideal S1x256 .f32} {Y : Vec Ideal S2x768 .f32} (hY : Strip G 6 Y) (A : Stok.Idx → EReal)
    (hG : ∀ u k, G u (ix2 0 k) = A (ix2 (bat u) (colAt u k))) : Y = A := by
  funext i
  rw [eq_ix2 i]
  have h0 : (i 0).val < 2 := (i 0).isLt
  have h1 : (i 1).val < 768 := (i 1).isLt
  have hN : cfg0.N = 6 := N_0
  let u : Fin cfg0.N := ⟨(i 0).val * 3 + (i 1).val / 256, by omega⟩
  let k : Fin 256 := ⟨(i 1).val % 256, by omega⟩
  have e : (ix2 (i 0) (i 1) : S2x768.Idx) = ix2 (bat u) (colAt u k) := by
    refine congrArg₂ ix2 (Fin.ext ?_) (Fin.ext ?_)
    · show (i 0).val = ((i 0).val * 3 + (i 1).val / 256) / 3; omega
    · show (i 1).val = ((i 0).val * 3 + (i 1).val / 256) % 3 * 256 + (i 1).val % 256; omega
  rw [e, ← hG, ← hY u (by omega) (ix2 0 k), rect1_emb]

include h in
theorem final_14 : r.2.mem ((c : Thread nD τ).loc main_v1_3) = hsA (WM m c) (XA m c) := by
  obtain ⟨X, hX, hj⟩ := ((h c).1 14).emb_eq_of_wholeAt (t₀ := t0_5) (by decide +kernel)
  have e : Strip (hsOf m c) 6 X := Dat.toRRel_leaves (w := 14) (dats m 0 c) rfl hX
  have e' := strip_all e (hsA (WM m c) (XA m c)) fun u k => by
    refine ((fits m c u).hsr_apply k).trans ?_
    rw [tok_eq, ← flat_eq]; rfl
  funext j
  exact (hj j).trans (congrFun e' j)

include h in
theorem final_16 : r.2.mem ((c : Thread nD τ).loc main_v1_5) = gsA (WM m c) (XA m c) := by
  obtain ⟨X, hX, hj⟩ := ((h c).1 16).emb_eq_of_wholeAt (t₀ := t0_5) (by decide +kernel)
  have e : Strip (gsOf m c) 6 X := Dat.toRRel_leaves (w := 16) (dats m 0 c) rfl hX
  have e' := strip_all e (gsA (WM m c) (XA m c)) fun u k => by
    refine ((fits m c u).gsr_apply k).trans ?_
    rw [tok_eq, ← flat_eq]; rfl
  funext j
  exact (hj j).trans (congrFun e' j)

/-- A batch's last point. -/
theorem pt_last (b : Fin 2) : (pt b 2).val % 3 = 2 := by show (b.val * 3 + 2) % 3 = 2; omega

theorem rect2_emb (b : Fin 2) (n : Fin 576) : (rect2 (pt b 2) (pt_last b)).emb (ix2 0 n) = ix2 b n := by
  funext a
  refine Fin.ext ?_
  fin_cases a
  · show k0_off2 (grid0.coords (pt b 2)) 0 + 1 * 0 = b.val
    rw [off2_0]; show (b.val * 3 + 2) / 3 + 1 * 0 = b.val; omega
  · show k0_off2 (grid0.coords (pt b 2)) 1 + 1 * n.val = n.val
    show 0 + 1 * n.val = n.val
    omega

theorem rows_all {G : (u : Fin cfg0.N) → Vec Ideal S1x576 .f32} {Y : Vec Ideal S2x576 .f32} (hY : Rows G 6 Y) (A : Sslot.Idx → EReal)
    (hG : ∀ b n, G (pt b 2) (ix2 0 n) = A (ix2 b n)) : Y = A := by
  funext i
  obtain ⟨b, n, rfl⟩ : ∃ (b : Fin 2) (n : Fin 576), i = ix2 b n := ⟨i 0, i 1, eq_ix2 i⟩
  rw [← hG, ← hY (pt b 2) (by show b.val * 3 + 2 < 6; omega) (pt_last b) (ix2 0 n), rect2_emb]

include h in
theorem final_12 : r.2.mem ((c : Thread nD τ).loc main_v1_1) = szA (ZA m c) (DA m c) := by
  obtain ⟨X, hX, hj⟩ := ((h c).1 12).emb_eq_of_wholeAt (t₀ := t0_5) (by decide +kernel)
  have e : Rows (soOf m c) 6 X := Dat.toRRel_leaves (w := 12) (dats m 0 c) rfl hX
  have e' := rows_all e (szA (ZA m c) (DA m c)) fun b n => (sout_apply _ n).trans (sacc_pt m c b n 0)
  funext j
  exact (hj j).trans (congrFun e' j)

theorem out_eq (H : Fin' m c) (t : Fin cfg0.N) (ht : t.val % 3 = 2) (y : S1x576x2048.Idx) :
    xoOf m c t y = outA (WM m c) (XA m c) (ZA m c) (DA m c) (ix3 (bat t) (y 1) (y 2)) := by
  obtain ⟨n, j, rfl⟩ : ∃ (n : Fin 576) (j : Fin 2048), y = ix3 0 n j := ⟨y 1, y 2, by
    have h0 : y 0 = (0 : Fin 1) := Fin.ext (by have : (y 0).val < 1 := (y 0).isLt; change (y 0).val = 0; omega)
    exact (eq_ix3 y).trans (congrArg (fun a : Fin 1 => ix3 a (y 1) (y 2)) h0)⟩
  have e : t.val + 1 = (bat t).val * 3 + 3 := by show t.val + 1 = t.val / 3 * 3 + 3; omega
  unfold xoOf
  rw [xout_apply, e, sacc_pt, xacc_pt m c H]
  rfl

include h in
theorem final_11 (H : Fin' m c) : r.2.mem ((c : Thread nD τ).loc main_v1_0) = outA (WM m c) (XA m c) (ZA m c) (DA m c) := by
  obtain ⟨after, hL, hA⟩ := h.exists_exact c
  refine (hA 11).trans (Dat.arrAt_eq_of_covers _ 11 _ (by decide +kernel) fun t hf y => ?_)
  have ht : t.val % 3 = 2 := (flush0_11 t).mp hf
  have e : after 11 t = xoOf m c t := Dat.toRRel_leaves (w := 11) (dats m 0 c) rfl (hL 11 t hf) ht
  blk_simp
  rw [Pipeline.RDat.withAfter_after, e, out_eq m c H t ht]
  blk_ext [idx_11 t, bat]

end Cert.KernelIdeal.Hand

end
-- ==== Proof.Hand.RowsR.lean ====
/- The reference read at an index: each of its values is the row function of `Rows`. -/
module

public import proofs.«01_k».proof.Proof.Hand.Rows
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic
open Cert.ReferenceIdeal.Gen Cert.Quant

variable {W : Wts}

/-- A row's maximum. -/
theorem max_row {n k : ℕ} (src : FVec Ideal ⟨2, ![n, k]⟩ .f32) (acc : BitVec 32) (h : (⟨2, ![n, k]⟩ : Shape).Reduces [(1 : Fin 2)] ⟨1, ![n]⟩)
    (hφ : FKind.Formats .f32) (hacc : acc = FKind.maximumf.neutral .f32 hφ) (r : Fin n) :
    multiReduction .maximumf [(1 : Fin 2)] ⟨1, ![n]⟩ src acc h hφ hacc (ix1 r)
      = Finset.fold max (Ideal.ofBits .f32 acc) (fun x => src (ix2 r x)) Finset.univ := by
  rw [multiReduction_maximumf_eq_fold]
  simp only [pointwise]

/-- The rows' values over 448, from a vector of them. -/
def over448 (R : FVec Ideal S1536 .f32) : FVec Ideal S1536x1 .f32 :=
  mulf (shapeCast S1536x1 R shapeCasts_S1536_S1536x1) (broadcast S1536x1 (Scalar.ofBits .f32 0x3B124925#32))

theorem over448_apply (R : FVec Ideal S1536 .f32) (r : Fin 1536) : over448 R (ix2 r 0) = R (ix1 r) * kInv448 := by
  pointwise [over448]

/-- The exponent before a tiny row is given exponent 0. -/
def rawExpo (A : FVec Ideal S1536x1 .f32) : FVec Ideal S1536x1 .f32 :=
  minimumf (addf (floor (divf (log A) (log (broadcast S1536x1 (Scalar.ofBits .f32 0x40000000#32))))) (broadcast S1536x1 (Scalar.ofBits .f32 0x3F800000#32)))
    (broadcast S1536x1 (Scalar.ofBits .f32 0x42F00000#32))

theorem expo_of (A : FVec Ideal S1536x1 .f32) (r : Fin 1536) : k0_pay11 A (rawExpo A) (ix2 r 0) = expo (A (ix2 r 0)) := by
  pointwise [k0_pay11, rawExpo]
  rfl

theorem ln_apply {x : Vec Ideal S1536x2048 .f32} {g b : Vec Ideal S1x2048 .f32} (hg : ∀ j, g (ix2 0 j) = W.g j)
    (hb : ∀ j, b (ix2 0 j) = W.b j) (r : Fin 1536) (j : Fin 2048) :
    k0_pay4 x g b (ix2 r j) = lnRow W (fun k => x (ix2 r k)) j := by
  pointwise [k0_pay4]
  rw [hg, hb]
  rfl

theorem expo_apply {x : Vec Ideal S1536x2048 .f32} {g b : Vec Ideal S1x2048 .f32} (hg : ∀ j, g (ix2 0 j) = W.g j)
    (hb : ∀ j, b (ix2 0 j) = W.b j) (r : Fin 1536) :
    k0_pay5 x g b (ix2 r 0) = expo (scaled (lnRow W (fun k => x (ix2 r k)))) := by
  have e : k0_pay5 x g b = (fun A => k0_pay11 A (rawExpo A)) (over448 (multiReduction .maximumf [1] S1536 (absf (k0_pay4 x g b)) 0xFF800000#32 reduces_S1536x2048_S1536 (.inl rfl) rfl)) := rfl
  rw [e]
  refine (expo_of _ r).trans (congrArg expo ((over448_apply _ r).trans (congrArg (· * kInv448) ?_)))
  refine (max_row _ _ _ _ _ r).trans ?_
  refine congrArg (fun f => Finset.fold max kBot f Finset.univ) (funext fun k => ?_)
  exact congrArg (FloatOps.absf (F := Ideal) (φ := .f32)) (ln_apply hg hb r k)

theorem code_apply {v : FVec Ideal S1536x2048 .f32} {e : FVec Ideal S1536x1 .f32} {R : EReal} {z : Ideal .f32} (hz : z = (0 : EReal)) (r : Fin 1536) (j : Fin 2048)
    (he : e (ix2 r 0) = expo R) :
    k0_pay6 v e z (ix2 r j) = code R (v (ix2 r j)) := by
  pointwise [k0_pay6]
  rw [he, hz]
  rfl

theorem scale_apply {e : FVec Ideal S1536x1 .f32} {R : EReal} (r : Fin 1536) (he : e (ix2 r 0) = expo R) :
    k0_pay7 e (ix2 r 0) = scale R := by
  pointwise [k0_pay7]
  rw [he]
  rfl

theorem g_apply {v : FVec Ideal S1536x2048 .f32} {e : FVec Ideal S1536x1 .f32} {w : Vec Ideal S2048x7168 .fp8e4m3}
    {s b : Vec Ideal S1x7168 .f32} {X : Fin 2048 → EReal} {z : Ideal .f32} (hz : z = (0 : EReal)) (r : Fin 1536)
    (hv : ∀ j, v (ix2 r j) = lnRow W X j) (he : e (ix2 r 0) = expo (scaled (lnRow W X)))
    (hw : ∀ k j, w (ix2 k j) = W.w1 k j) (hs : ∀ j, s (ix2 0 j) = W.s1 j) (hb : ∀ j, b (ix2 0 j) = W.b1 j) (j : Fin 7168) :
    k0_pay8 v e z w s b (ix2 r j) = gRow W X j := by
  pointwise [k0_pay8]
  simp only [code_apply hz r _ he, scale_apply r he, hv, hw, hs, hb]
  rfl

theorem amax_apply {v : FVec Ideal S1536x2048 .f32} {e : FVec Ideal S1536x1 .f32} {w : Vec Ideal S2048x7168 .fp8e4m3}
    {s b : Vec Ideal S1x7168 .f32} {X : Fin 2048 → EReal} {z : Ideal .f32} (hz : z = (0 : EReal)) (r : Fin 1536)
    (hv : ∀ j, v (ix2 r j) = lnRow W X j) (he : e (ix2 r 0) = expo (scaled (lnRow W X)))
    (hw : ∀ k j, w (ix2 k j) = W.w1 k j) (hs : ∀ j, s (ix2 0 j) = W.s1 j) (hb : ∀ j, b (ix2 0 j) = W.b1 j) :
    k0_pay9 v e z w s b (ix2 r 0) = scaled (gRow W X) := by
  have e' : k0_pay9 v e z w s b = over448 (multiReduction .maximumf [1] S1536 (absf (k0_pay8 v e z w s b)) 0xFF800000#32 reduces_S1536x7168_S1536 (.inl rfl) rfl) := rfl
  rw [e']
  refine (over448_apply _ r).trans (congrArg (· * kInv448) ?_)
  refine (max_row _ _ _ _ _ r).trans ?_
  refine congrArg (fun f => Finset.fold max kBot f Finset.univ) (funext fun k => ?_)
  exact congrArg (FloatOps.absf (F := Ideal) (φ := .f32)) (g_apply hz r hv he hw hs hb k)

/-- The activation's exponent. -/
theorem gexpo_apply {v : FVec Ideal S1536x2048 .f32} {e : FVec Ideal S1536x1 .f32} {w : Vec Ideal S2048x7168 .fp8e4m3}
    {s b : Vec Ideal S1x7168 .f32} {X : Fin 2048 → EReal} {z : Ideal .f32} (hz : z = (0 : EReal)) (r : Fin 1536)
    (hv : ∀ j, v (ix2 r j) = lnRow W X j) (he : e (ix2 r 0) = expo (scaled (lnRow W X)))
    (hw : ∀ k j, w (ix2 k j) = W.w1 k j) (hs : ∀ j, s (ix2 0 j) = W.s1 j) (hb : ∀ j, b (ix2 0 j) = W.b1 j) :
    k0_pay11 (k0_pay9 v e z w s b) (k0_pay10 v e z w s b) (ix2 r 0)
      = expo (scaled (gRow W X)) := by
  have e' : k0_pay10 v e z w s b = rawExpo (k0_pay9 v e z w s b) := rfl
  rw [e']
  exact (expo_of _ r).trans (congrArg expo (amax_apply hz r hv he hw hs hb))

theorem gc_apply {x : FVec Ideal S1536x7168 .f32} {a e : FVec Ideal S1536x1 .f32} {R : EReal} (r : Fin 1536) (j : Fin 7168)
    (h : k0_pay11 a e (ix2 r 0) = expo R) : k0_pay12 x a e (ix2 r j) = code R (x (ix2 r j)) := by
  pointwise [k0_pay12]
  simp only [h]
  rfl

theorem gs_apply {a e : FVec Ideal S1536x1 .f32} {R : EReal} (r : Fin 1536) (h : k0_pay11 a e (ix2 r 0) = expo R) :
    k0_pay13 a e (ix2 r 0) = scale R := by
  pointwise [k0_pay13]
  simp only [h]
  rfl

theorem hst_apply {s : FVec Ideal S1536x1 .f32} (b : Fin 2) (k : Fin 768) :
    k0_pay14 s (ix2 b k) = s (ix2 ⟨b.val * 768 + k.val, by omega⟩ 0) := by
  pointwise [k0_pay14]

theorem gst_apply {a e : FVec Ideal S1536x1 .f32} (b : Fin 2) (k : Fin 768) :
    k0_pay15 a e (ix2 b k) = k0_pay13 a e (ix2 ⟨b.val * 768 + k.val, by omega⟩ 0) := by
  pointwise [k0_pay15]

theorem y_apply {x : Vec Ideal S1536x2048 .f32} {v : FVec Ideal S1536x7168 .f32} {a e : FVec Ideal S1536x1 .f32}
    {w : Vec Ideal S7168x2048 .f32} {s t : Vec Ideal S1x2048 .f32} (b : Fin 2) (k : Fin 768)
    (hv : ∀ j, v (ix2 ⟨b.val * 768 + k.val, by omega⟩ j) = gRow W (fun l => x (ix2 ⟨b.val * 768 + k.val, by omega⟩ l)) j)
    (he : k0_pay11 a e (ix2 ⟨b.val * 768 + k.val, by omega⟩ 0) = expo (scaled (gRow W (fun l => x (ix2 ⟨b.val * 768 + k.val, by omega⟩ l)))))
    (hw : ∀ k j, w (ix2 k j) = W.w2 k j) (hs : ∀ j, s (ix2 0 j) = W.s2 j) (ht : ∀ j, t (ix2 0 j) = W.b2 j) (j : Fin 2048) :
    k0_pay16 x v a e w s t (ix3 b k j) = yRow W (fun l => x (ix2 ⟨b.val * 768 + k.val, by omega⟩ l)) j := by
  pointwise [k0_pay16]
  simp only [gc_apply _ _ he, gs_apply _ he, hv, hw, hs, ht]
  rfl

theorem slot_apply {s : Vec Ideal S2x768 .f32} {d : Vec Ideal S2x768 .i32} (b : Fin 2) (n : Fin 576) :
    k0_pay2 s d (ix2 b n) = slotSum (fun k => d (ix2 b k)) (fun k => s (ix2 b k)) n.val := by
  pointwise [k0_pay2, k0_pay1]
  rfl

theorem merged_apply {y : FVec Ideal S2x768x2048 .f32} {s : Vec Ideal S2x768 .f32} {d : Vec Ideal S2x768 .i32} (b : Fin 2) (n : Fin 576) (j : Fin 2048) :
    k0_pay3 y s d (ix3 b n j) = merged (slotSum (fun k => d (ix2 b k)) (fun k => s (ix2 b k) * y (ix3 b k j)) n.val)
      (slotSum (fun k => d (ix2 b k)) (fun k => s (ix2 b k)) n.val) := by
  pointwise [k0_pay3, k0_pay1]
  simp only [slot_apply]
  rfl

end Cert.ReferenceIdeal.Hand

end
-- ==== Proof.Hand.ArrR.lean ====
/- The reference's results after its run, as the arrays of `Whole`. -/
module

public import proofs.«01_k».proof.Proof.Hand.RowsR
public import proofs.«01_k».proof.Proof.Hand.Whole
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal Cert.ReferenceIdeal.Gen Cert.Quant

section Body

variable (x0 : Vec Ideal S1536x2048 .f32) (x1 : Vec Ideal S2x768 .f32) (x2 : Vec Ideal S2x768 .i32) (x3 : Vec Ideal S1x2048 .f32)
  (x4 : Vec Ideal S1x2048 .f32) (x5 : Vec Ideal S2048x7168 .fp8e4m3) (x6 : Vec Ideal S1x7168 .f32) (x7 : Vec Ideal S1x7168 .f32)
  (x8 : Vec Ideal S7168x2048 .f32) (x9 : Vec Ideal S1x2048 .f32) (x10 : Vec Ideal S1x2048 .f32)

/-- The weights among the body's blocks. -/
abbrev WW : Wts := wts x3 x4 x5 x6 x7 x8 x9 x10

theorem zero_word : (Scalar.ofBits .f32 0x00000000#32 : Ideal .f32) = (0 : EReal) := Ideal.ofBits_zero .f32

theorem v17 (r : Fin 1536) (j : Fin 2048) : k0_pay17 x0 x1 x2 x3 x4 x5 x6 x7 x8 x9 x10 (ix2 r j) = lnRow (WW x3 x4 x5 x6 x7 x8 x9 x10) (rowOf x0 r) j := by
  unfold k0_pay17
  rw [View.ld_unit_lit _ x0 (by decide), View.ld_unit_lit _ x3 (by decide), View.ld_unit_lit _ x4 (by decide)]
  exact ln_apply (fun _ => rfl) (fun _ => rfl) r j

theorem v18 (r : Fin 1536) : k0_pay18 x0 x1 x2 x3 x4 x5 x6 x7 x8 x9 x10 (ix2 r 0) = expo (scaled (lnRow (WW x3 x4 x5 x6 x7 x8 x9 x10) (rowOf x0 r))) := by
  unfold k0_pay18
  rw [View.ld_unit_lit _ x0 (by decide), View.ld_unit_lit _ x3 (by decide), View.ld_unit_lit _ x4 (by decide)]
  exact expo_apply (fun _ => rfl) (fun _ => rfl) r

theorem v19 (r : Fin 1536) (j : Fin 7168) : k0_pay19 x0 x1 x2 x3 x4 x5 x6 x7 x8 x9 x10 (ix2 r j) = gRow (WW x3 x4 x5 x6 x7 x8 x9 x10) (rowOf x0 r) j := by
  unfold k0_pay19
  rw [View.ld_unit_lit _ x5 (by decide), View.ld_unit_lit _ x6 (by decide), View.ld_unit_lit _ x7 (by decide)]
  exact g_apply zero_word r (v17 x0 x1 x2 x3 x4 x5 x6 x7 x8 x9 x10 r) (v18 x0 x1 x2 x3 x4 x5 x6 x7 x8 x9 x10 r) (fun _ _ => rfl) (fun _ => rfl) (fun _ => rfl) j

theorem v20 (r : Fin 1536) : k0_pay20 x0 x1 x2 x3 x4 x5 x6 x7 x8 x9 x10 (ix2 r 0) = scaled (gRow (WW x3 x4 x5 x6 x7 x8 x9 x10) (rowOf x0 r)) := by
  unfold k0_pay20
  rw [View.ld_unit_lit _ x5 (by decide), View.ld_unit_lit _ x6 (by decide), View.ld_unit_lit _ x7 (by decide)]
  exact amax_apply zero_word r (v17 x0 x1 x2 x3 x4 x5 x6 x7 x8 x9 x10 r) (v18 x0 x1 x2 x3 x4 x5 x6 x7 x8 x9 x10 r) (fun _ _ => rfl) (fun _ => rfl) (fun _ => rfl)

theorem v21 (r : Fin 1536) : k0_pay11 (k0_pay20 x0 x1 x2 x3 x4 x5 x6 x7 x8 x9 x10) (k0_pay21 x0 x1 x2 x3 x4 x5 x6 x7 x8 x9 x10) (ix2 r 0)
    = expo (scaled (gRow (WW x3 x4 x5 x6 x7 x8 x9 x10) (rowOf x0 r))) := by
  unfold k0_pay20 k0_pay21
  rw [View.ld_unit_lit _ x5 (by decide), View.ld_unit_lit _ x6 (by decide), View.ld_unit_lit _ x7 (by decide)]
  exact gexpo_apply zero_word r (v17 x0 x1 x2 x3 x4 x5 x6 x7 x8 x9 x10 r) (v18 x0 x1 x2 x3 x4 x5 x6 x7 x8 x9 x10 r) (fun _ _ => rfl) (fun _ => rfl) (fun _ => rfl)

theorem out_hc : out0_13 x0 x1 x2 x3 x4 x5 x6 x7 x8 x9 x10 = hcA (WW x3 x4 x5 x6 x7 x8 x9 x10) x0 := by
  unfold out0_13
  rw [View.canon_cons_unit_lit _ _ _ (by decide)]
  funext i
  obtain ⟨r, j, rfl⟩ : ∃ (r : Fin 1536) (j : Fin 2048), i = ix2 r j := ⟨i 0, i 1, eq_ix2 i⟩
  exact (code_apply zero_word r j (v18 x0 x1 x2 x3 x4 x5 x6 x7 x8 x9 x10 r)).trans (congrArg (code _) (v17 x0 x1 x2 x3 x4 x5 x6 x7 x8 x9 x10 r j))

theorem out_gc : out0_15 x0 x1 x2 x3 x4 x5 x6 x7 x8 x9 x10 = gcA (WW x3 x4 x5 x6 x7 x8 x9 x10) x0 := by
  unfold out0_15
  rw [View.canon_cons_unit_lit _ _ _ (by decide)]
  funext i
  obtain ⟨r, j, rfl⟩ : ∃ (r : Fin 1536) (j : Fin 7168), i = ix2 r j := ⟨i 0, i 1, eq_ix2 i⟩
  exact (gc_apply r j (v21 x0 x1 x2 x3 x4 x5 x6 x7 x8 x9 x10 r)).trans (congrArg (code _) (v19 x0 x1 x2 x3 x4 x5 x6 x7 x8 x9 x10 r j))

theorem out_hs : out0_14 x0 x1 x2 x3 x4 x5 x6 x7 x8 x9 x10 = hsA (WW x3 x4 x5 x6 x7 x8 x9 x10) x0 := by
  unfold out0_14
  rw [View.canon_cons_unit_lit _ _ _ (by decide)]
  funext i
  obtain ⟨b, k, rfl⟩ : ∃ (b : Fin 2) (k : Fin 768), i = ix2 b k := ⟨i 0, i 1, eq_ix2 i⟩
  exact (hst_apply b k).trans (scale_apply (flat b k) (v18 x0 x1 x2 x3 x4 x5 x6 x7 x8 x9 x10 (flat b k)))

theorem out_gs : out0_16 x0 x1 x2 x3 x4 x5 x6 x7 x8 x9 x10 = gsA (WW x3 x4 x5 x6 x7 x8 x9 x10) x0 := by
  unfold out0_16
  rw [View.canon_cons_unit_lit _ _ _ (by decide)]
  funext i
  obtain ⟨b, k, rfl⟩ : ∃ (b : Fin 2) (k : Fin 768), i = ix2 b k := ⟨i 0, i 1, eq_ix2 i⟩
  exact (gst_apply b k).trans (gs_apply (flat b k) (v21 x0 x1 x2 x3 x4 x5 x6 x7 x8 x9 x10 (flat b k)))

theorem out_sz : out0_12 x0 x1 x2 x3 x4 x5 x6 x7 x8 x9 x10 = szA x1 x2 := by
  unfold out0_12
  rw [View.canon_cons_unit_lit _ _ _ (by decide), View.ld_unit_lit _ x1 (by decide), View.ld_unit_lit _ x2 (by decide)]
  funext i
  obtain ⟨b, n, rfl⟩ : ∃ (b : Fin 2) (n : Fin 576), i = ix2 b n := ⟨i 0, i 1, eq_ix2 i⟩
  exact slot_apply b n

theorem out_x : out0_11 x0 x1 x2 x3 x4 x5 x6 x7 x8 x9 x10 = outA (WW x3 x4 x5 x6 x7 x8 x9 x10) x0 x1 x2 := by
  unfold out0_11
  rw [View.canon_cons_unit_lit _ _ _ (by decide), View.ld_unit_lit _ x0 (by decide), View.ld_unit_lit _ x1 (by decide), View.ld_unit_lit _ x2 (by decide),
    View.ld_unit_lit _ x8 (by decide), View.ld_unit_lit _ x9 (by decide), View.ld_unit_lit _ x10 (by decide)]
  funext i
  obtain ⟨b, n, j, rfl⟩ : ∃ (b : Fin 2) (n : Fin 576) (j : Fin 2048), i = ix3 b n j := ⟨i 0, i 1, i 2, eq_ix3 i⟩
  refine (merged_apply b n j).trans ?_
  refine congrArg (fun f => merged (slotSum (fun k => x2 (ix2 b k)) f n.val) (slotSum (fun k => x2 (ix2 b k)) (fun k => x1 (ix2 b k)) n.val)) (funext fun k => ?_)
  refine congrArg (x1 (ix2 b k) * ·) ?_
  exact y_apply b k (v19 x0 x1 x2 x3 x4 x5 x6 x7 x8 x9 x10 (flat b k)) (v21 x0 x1 x2 x3 x4 x5 x6 x7 x8 x9 x10 (flat b k)) (fun _ _ => rfl) (fun _ => rfl) (fun _ => rfl) j

end Body

variable (m : (ℓ : Loc nD τ sig) → Buf (Elt Ideal) ℓ)

theorem idx_0 : win0_0.index t0_0 = ![0, 0] := by decide +kernel
theorem iblk_0 (c : Dev nD) : iblk m c 0 t0_0 = m ((c : Thread nD τ).loc main_arg0) := by
  funext y
  blk_simp [iblk, V]
  blk_ext [iblk, V, idx_0]

theorem idx_1 : win0_1.index t0_0 = ![0, 0] := by decide +kernel
theorem iblk_1 (c : Dev nD) : iblk m c 1 t0_0 = m ((c : Thread nD τ).loc main_arg1) := by
  funext y
  blk_simp [iblk, V]
  blk_ext [iblk, V, idx_1]

theorem idx_2 : win0_2.index t0_0 = ![0, 0] := by decide +kernel
theorem iblk_2 (c : Dev nD) : iblk m c 2 t0_0 = m ((c : Thread nD τ).loc main_arg2) := by
  funext y
  blk_simp [iblk, V]
  blk_ext [iblk, V, idx_2]

theorem idx_3 : win0_3.index t0_0 = ![0, 0] := by decide +kernel
theorem iblk_3 (c : Dev nD) : iblk m c 3 t0_0 = m ((c : Thread nD τ).loc main_arg3) := by
  funext y
  blk_simp [iblk, V]
  blk_ext [iblk, V, idx_3]

theorem idx_4 : win0_4.index t0_0 = ![0, 0] := by decide +kernel
theorem iblk_4 (c : Dev nD) : iblk m c 4 t0_0 = m ((c : Thread nD τ).loc main_arg4) := by
  funext y
  blk_simp [iblk, V]
  blk_ext [iblk, V, idx_4]

theorem idx_5 : win0_5.index t0_0 = ![0, 0] := by decide +kernel
theorem iblk_5 (c : Dev nD) : iblk m c 5 t0_0 = m ((c : Thread nD τ).loc main_arg5) := by
  funext y
  blk_simp [iblk, V]
  blk_ext [iblk, V, idx_5]

theorem idx_6 : win0_6.index t0_0 = ![0, 0] := by decide +kernel
theorem iblk_6 (c : Dev nD) : iblk m c 6 t0_0 = m ((c : Thread nD τ).loc main_arg6) := by
  funext y
  blk_simp [iblk, V]
  blk_ext [iblk, V, idx_6]

theorem idx_7 : win0_7.index t0_0 = ![0, 0] := by decide +kernel
theorem iblk_7 (c : Dev nD) : iblk m c 7 t0_0 = m ((c : Thread nD τ).loc main_arg7) := by
  funext y
  blk_simp [iblk, V]
  blk_ext [iblk, V, idx_7]

theorem idx_8 : win0_8.index t0_0 = ![0, 0] := by decide +kernel
theorem iblk_8 (c : Dev nD) : iblk m c 8 t0_0 = m ((c : Thread nD τ).loc main_arg8) := by
  funext y
  blk_simp [iblk, V]
  blk_ext [iblk, V, idx_8]

theorem idx_9 : win0_9.index t0_0 = ![0, 0] := by decide +kernel
theorem iblk_9 (c : Dev nD) : iblk m c 9 t0_0 = m ((c : Thread nD τ).loc main_arg9) := by
  funext y
  blk_simp [iblk, V]
  blk_ext [iblk, V, idx_9]

theorem idx_10 : win0_10.index t0_0 = ![0, 0] := by decide +kernel
theorem iblk_10 (c : Dev nD) : iblk m c 10 t0_0 = m ((c : Thread nD τ).loc main_arg10) := by
  funext y
  blk_simp [iblk, V]
  blk_ext [iblk, V, idx_10]

/-- The weights among the arguments. -/
abbrev WM (c : Dev nD) : Wts := wts (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem final_11 (c : Dev nD) : (dats m 0 c).arrAt 11 (cfgs 0).N = outA (WM m c) (m ((c : Thread nD τ).loc main_arg0)) (m ((c : Thread nD τ).loc main_arg1)) (m ((c : Thread nD τ).loc main_arg2)) := by
  refine (dats m 0 c).arrAt_eq_of_after_last 11 t0_0 (by decide +kernel) _ fun j => ?_
  blk_simp
  rw [after0_11, iblk_0, iblk_1, iblk_2, iblk_3, iblk_4, iblk_5, iblk_6, iblk_7, iblk_8, iblk_9, iblk_10, out_x]

theorem final_12 (c : Dev nD) : (dats m 0 c).arrAt 12 (cfgs 0).N = szA (m ((c : Thread nD τ).loc main_arg1)) (m ((c : Thread nD τ).loc main_arg2)) := by
  refine (dats m 0 c).arrAt_eq_of_after_last 12 t0_0 (by decide +kernel) _ fun j => ?_
  blk_simp
  rw [after0_12, iblk_0, iblk_1, iblk_2, iblk_3, iblk_4, iblk_5, iblk_6, iblk_7, iblk_8, iblk_9, iblk_10, out_sz]

theorem final_13 (c : Dev nD) : (dats m 0 c).arrAt 13 (cfgs 0).N = hcA (WM m c) (m ((c : Thread nD τ).loc main_arg0)) := by
  refine (dats m 0 c).arrAt_eq_of_after_last 13 t0_0 (by decide +kernel) _ fun j => ?_
  blk_simp
  rw [after0_13, iblk_0, iblk_1, iblk_2, iblk_3, iblk_4, iblk_5, iblk_6, iblk_7, iblk_8, iblk_9, iblk_10, out_hc]

theorem final_14 (c : Dev nD) : (dats m 0 c).arrAt 14 (cfgs 0).N = hsA (WM m c) (m ((c : Thread nD τ).loc main_arg0)) := by
  refine (dats m 0 c).arrAt_eq_of_after_last 14 t0_0 (by decide +kernel) _ fun j => ?_
  blk_simp
  rw [after0_14, iblk_0, iblk_1, iblk_2, iblk_3, iblk_4, iblk_5, iblk_6, iblk_7, iblk_8, iblk_9, iblk_10, out_hs]

theorem final_15 (c : Dev nD) : (dats m 0 c).arrAt 15 (cfgs 0).N = gcA (WM m c) (m ((c : Thread nD τ).loc main_arg0)) := by
  refine (dats m 0 c).arrAt_eq_of_after_last 15 t0_0 (by decide +kernel) _ fun j => ?_
  blk_simp
  rw [after0_15, iblk_0, iblk_1, iblk_2, iblk_3, iblk_4, iblk_5, iblk_6, iblk_7, iblk_8, iblk_9, iblk_10, out_gc]

theorem final_16 (c : Dev nD) : (dats m 0 c).arrAt 16 (cfgs 0).N = gsA (WM m c) (m ((c : Thread nD τ).loc main_arg0)) := by
  refine (dats m 0 c).arrAt_eq_of_after_last 16 t0_0 (by decide +kernel) _ fun j => ?_
  blk_simp
  rw [after0_16, iblk_0, iblk_1, iblk_2, iblk_3, iblk_4, iblk_5, iblk_6, iblk_7, iblk_8, iblk_9, iblk_10, out_gs]

end Cert.ReferenceIdeal.Hand

end
-- ==== Proof.Hand.Finite.lean ====
/- What the precondition says: every element of the arrays it names is a real number. -/
module

public import proofs.«01_k».proof.Defs
public import proofs.«01_k».proof.Proof.Hand.ArrK
public import Idealize.ShloMosaic.Lib.Pointwise

@[expose] public section

noncomputable section

namespace Cert.KernelIdeal.Hand

open Idealize.ShloMosaic Idealize.ShloMosaic.TcCoe Idealize.SL.Sem
open Cert.KernelIdeal Cert.KernelIdeal.Gen Cert.Quant

/-- The predicate's side conditions. -/
instance preFacts : Cert.Pre_finite.Facts where
  bcast_S_S1536x2048 := by decide
  bcast_S_S2x768 := by decide
  bcast_S_S7168x2048 := by decide
  bcast_S_S1x2048 := by decide

/-- The word of plus infinity. -/
theorem inf_word : Ideal.ofBits .f32 0x7F800000#32 = (⊤ : EReal) := by
  refine (show Ideal.ofBits .f32 0x7F800000#32 = Ideal.ieee 8 23 (0x7F800000#32) from rfl).trans ?_
  unfold Ideal.ieee
  have h1 : (0x7F800000#32).extractLsb' (8 + 23) 1 = 0#1 := by decide
  have h2 : ((0x7F800000#32).extractLsb' 23 8).toNat = 255 := by decide
  have h3 : ((0x7F800000#32).extractLsb' 0 23).toNat = 0 := by decide
  simp only [h1, h2, h3]
  norm_num

/-- A number whose absolute value is below infinity is real. -/
theorem real_of_abs_lt {v : EReal} (h : max v (-v) < ⊤) : Real' v := by
  induction v using EReal.rec with
  | bot => simp at h
  | top => simp at h
  | coe x => exact ⟨x, rfl⟩

/-- One comparison of the precondition, read back. -/
theorem real_of_mask {s : Shape} {x : FVec Ideal s .f32} (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) : Real' (x i) := by
  refine real_of_abs_lt ?_
  have e : BitVec.ofBool (decide (max (x i) (-(x i)) < Ideal.ofBits .f32 0x7F800000#32)) = 1#1 := congrFun h i
  rw [inf_word] at e
  by_contra hn
  rw [decide_eq_false hn] at e
  exact absurd e (by decide)

variable (m : (ℓ : Loc nD τ sig) → Buf (Elt Ideal) ℓ)

theorem fin_of_pre (h : Cert.Pre_KernelIdeal_finite m) (c : Dev nD) : Fin' m c := by
  obtain ⟨h0, h1, h2, h3, h4⟩ := h c
  exact ⟨real_of_mask _ h0, real_of_mask _ h1, fun k j => real_of_mask _ h2 _, fun j => real_of_mask _ h3 _, fun j => real_of_mask _ h4 _⟩

end Cert.KernelIdeal.Hand

end
-- ==== Proof.Hand.Same.lean ====
/- The program as printed and the program printed for reading over the extended reals are one text under two names: the frame of
   the one, proved at every reading of the floats, is the frame of the other. -/
module

public import proofs.«01_k».proof.Proof.Hand.Body
public import proofs.«01_k».proof.Proof.Gen.Kernel
public import Idealize.ShloMosaic.PureOps.BitExact
public import Idealize.ShloMosaic.Adequacy
public import Idealize.ShloMosaic.Init

@[expose] public section

set_option maxRecDepth 16384

noncomputable section

namespace Cert.KernelIdeal.Hand

open Idealize.ShloMosaic Idealize.ShloMosaic.TcCoe Idealize.SL.Sem

/-- The two printed bodies are one function under two names. -/
theorem cc0_eq : @Cert.Kernel.cc0_mlp Bits _ _ = @Cert.KernelIdeal.cc0_mlp Bits _ _ := rfl

set_option maxHeartbeats 4000000 in
/-- The printed programs' bodies are one table under two names. -/
theorem bodies_eq : @Cert.Kernel.defs₀ Bits _ _ = @Cert.KernelIdeal.defs₀ Bits _ _ := by
  funext p l a
  cases p with
  | tc =>
    match l, a with
    | 0, (t, s) =>
      unfold Cert.Kernel.defs₀ Cert.KernelIdeal.defs₀
      rw [cc0_eq]
      rfl
    | ⟨_ + 1, h⟩, _ => exact absurd h (Nat.not_lt.2 (Nat.le_add_left _ _))
  | scScalar _ => rfl
  | scVector _ _ => rfl

/-- So are the tables with the pipelines. -/
theorem defs_eq : @Cert.Kernel.defs Bits _ _ = @Cert.KernelIdeal.defs Bits _ _ :=
  congrArg (Pipeline.defs Cert.KernelIdeal.pcfgs) bodies_eq

/-- The two printed programs differ in name only: what is proved of the one at every reading of the floats is proved of the other. -/
theorem kernel_frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0) := by
  rw [defs_eq]
  exact Cert.KernelIdeal.Hand.frame (F := Bits) m ρ

end Cert.KernelIdeal.Hand

end
-- ==== Proof.Hand.QRows.lean ====
/- One row of the first call, as functions of extended reals: what the kernel computes for one output, what the
   reference computes, and that they agree where every number is real. -/
module

public import proofs.«01_k».proof.Proof.Hand.Rows

@[expose] public section

set_option maxRecDepth 16384

noncomputable section

namespace Cert.Quant

open Idealize.ShloMosaic

/-- A row less its mean. -/
def cen (x : Fin 2048 → EReal) (k : Fin 2048) : EReal := x k - mean x

/-- One over the deviation of a row. -/
def rdev (d : Fin 2048 → EReal) : EReal := Ideal.rsqrt (mean (fun k => (d k - mean d) * (d k - mean d)) + kEps)

/-- The kernel's output from a centred row `d`, its mean `μ` and deviation `r`: the weights times the gain are taken in
    three parts, of which the second and third are what the part before left over. -/
def qkvCell (d : Fin 2048 → EReal) (μ r : EReal) (g b w : Fin 2048 → EReal) (bias : EReal) : EReal :=
  r * (((∑ k, d k * ((w k * g k - w k * g k) - (w k * g k - w k * g k))) + (∑ k, d k * (w k * g k - w k * g k))
      + ∑ k, d k * (w k * g k)) - μ * ∑ k, w k * g k) + ((∑ k, w k * b k) + bias)

/-- The reference's output: the layer norm of the row times the weights. -/
def qkvRef (x g b w : Fin 2048 → EReal) (bias : EReal) : EReal :=
  (∑ k, (cen x k * Ideal.rsqrt (mean (fun k => cen x k * cen x k) + kEps) * g k + b k) * w k) + bias

theorem k2048_real : k2048 = ((2048 : ℝ) : EReal) := by
  refine (show k2048 = Ideal.ieee 8 23 (1157627904#32) from rfl).trans ?_
  unfold Ideal.ieee
  have h1 : (1157627904#32).extractLsb' (8 + 23) 1 = 0#1 := by decide
  have h2 : ((1157627904#32).extractLsb' 23 8).toNat = 138 := by decide
  have h3 : ((1157627904#32).extractLsb' 0 23).toNat = 0 := by decide
  simp only [h1, h2, h3]
  norm_num

theorem kEps_real : ∃ e : ℝ, 0 < e ∧ kEps = (e : EReal) := by
  refine ⟨8796093 / 8796093022208, by norm_num, (show kEps = Ideal.ieee 8 23 (897988541#32) from rfl).trans ?_⟩
  unfold Ideal.ieee
  have h1 : (897988541#32).extractLsb' (8 + 23) 1 = 0#1 := by decide
  have h2 : ((897988541#32).extractLsb' 23 8).toNat = 107 := by decide
  have h3 : ((897988541#32).extractLsb' 0 23).toNat = 407485 := by decide
  simp only [h1, h2, h3]
  norm_num

/-- A sum of reals. -/
theorem sum_coe {n : ℕ} (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- The mean of a row of reals. -/
theorem mean_coe (f : Fin 2048 → ℝ) : mean (fun k => (f k : EReal)) = (((∑ k, f k) / 2048 : ℝ) : EReal) := by
  unfold mean
  rw [sum_coe, k2048_real, Ideal.div, if_neg (by norm_num : ((2048 : ℝ) : EReal) ≠ 0), ← EReal.coe_inv, ← EReal.coe_mul]
  rfl

/-- The reciprocal root of a positive real is real. -/
theorem rsqrt_real {v : ℝ} (h : 0 < v) : Real' (Ideal.rsqrt (v : EReal)) :=
  ⟨(Real.sqrt v)⁻¹, by
    show (if v < 0 then (⊥ : EReal) else if v = 0 then ⊤ else ((Real.sqrt v)⁻¹ : ℝ)) = _
    rw [if_neg (not_lt.mpr h.le), if_neg h.ne']⟩

/-- A centred row of reals is a row of reals whose mean is zero. -/
theorem cen_coe (f : Fin 2048 → ℝ) : ∃ d : Fin 2048 → ℝ, (cen fun k => (f k : EReal)) = (fun k => (d k : EReal)) ∧ ∑ k, d k = 0 := by
  refine ⟨fun k => f k - (∑ k, f k) / 2048, ?_, ?_⟩
  · funext k
    unfold cen
    rw [mean_coe, EReal.coe_sub]
  · rw [Finset.sum_sub_distrib, Finset.sum_const, Finset.card_univ, Fintype.card_fin, nsmul_eq_mul]
    push_cast
    ring

/-- A real factor distributes over the sum of a real number and any extended real. -/
theorem add_mul_coe (p w : ℝ) (b : EReal) : ((p : EReal) + b) * (w : EReal) = ((p * w : ℝ) : EReal) + (w : EReal) * b := by
  induction b using EReal.rec with
  | coe b =>
    rw [← EReal.coe_add, ← EReal.coe_mul, ← EReal.coe_mul, ← EReal.coe_add]
    congr 1
    ring
  | bot =>
    rw [EReal.add_bot]
    rcases lt_trichotomy w 0 with h | h | h
    · rw [EReal.bot_mul_coe_of_neg h, EReal.coe_mul_bot_of_neg h, EReal.coe_add_top]
    · subst h; simp
    · rw [EReal.bot_mul_coe_of_pos h, EReal.coe_mul_bot_of_pos h, EReal.add_bot]
  | top =>
    rw [EReal.coe_add_top]
    rcases lt_trichotomy w 0 with h | h | h
    · rw [EReal.top_mul_coe_of_neg h, EReal.coe_mul_top_of_neg h, EReal.add_bot]
    · subst h; simp
    · rw [EReal.top_mul_coe_of_pos h, EReal.coe_mul_top_of_pos h, EReal.coe_add_top]

/-- The kernel's output and the reference's are equal on real numbers, whatever the shift of the layer norm is. -/
theorem qkv_eq_real {x g b w : Fin 2048 → EReal} {bias : EReal} (hx : ∀ k, Real' (x k)) (hg : ∀ k, Real' (g k))
    (hw : ∀ k, Real' (w k)) : qkvCell (cen x) (mean (cen x)) (rdev (cen x)) g b w bias = qkvRef x g b w bias := by
  choose xr hxr using hx
  choose gr hgr using hg
  choose wr hwr using hw
  obtain rfl : x = fun k => (xr k : EReal) := funext hxr
  obtain rfl : g = fun k => (gr k : EReal) := funext hgr
  obtain rfl : w = fun k => (wr k : EReal) := funext hwr
  obtain ⟨d, hd, hd0⟩ := cen_coe xr
  obtain ⟨e, he, hke⟩ := kEps_real
  have hm : mean (fun k => (d k : EReal)) = 0 := by rw [mean_coe, hd0, zero_div, EReal.coe_zero]
  have hr : rdev (fun k => (d k : EReal)) = Ideal.rsqrt (mean (fun k => (d k : EReal) * (d k : EReal)) + kEps) := by
    unfold rdev
    simp only [hm, sub_zero]
  have hv : 0 < (∑ k, d k * d k) / 2048 + e :=
    add_pos_of_nonneg_of_pos (div_nonneg (Finset.sum_nonneg fun k _ => mul_self_nonneg _) (by norm_num)) he
  obtain ⟨r, hrr⟩ : Real' (Ideal.rsqrt (mean (fun k => (d k : EReal) * (d k : EReal)) + kEps)) := by
    have e1 : mean (fun k => (d k : EReal) * (d k : EReal)) = (((∑ k, d k * d k) / 2048 : ℝ) : EReal) := by
      rw [← mean_coe]
      simp only [EReal.coe_mul]
    rw [e1, hke, ← EReal.coe_add]
    exact rsqrt_real hv
  unfold qkvCell qkvRef
  rw [hd, hm, hr, hrr]
  simp only [← EReal.coe_mul, add_mul_coe, Finset.sum_add_distrib]
  simp only [← EReal.coe_mul, ← EReal.coe_sub, ← EReal.coe_add, sub_self, mul_zero, sum_coe, Finset.sum_const_zero, EReal.coe_zero, zero_mul,
    sub_zero, zero_add]
  rw [← add_assoc]
  congr 3
  rw [Finset.mul_sum]
  exact Finset.sum_congr rfl fun k _ => by ring

/-! ## A row that is not of real numbers has deviation zero -/

theorem real_of_add {a b : EReal} (h : Real' (a + b)) : Real' a ∧ Real' b := by
  obtain ⟨r, hr⟩ := h
  induction a using EReal.rec with
  | bot => rw [EReal.bot_add] at hr; exact absurd hr.symm (EReal.coe_ne_bot r)
  | top =>
    induction b using EReal.rec with
    | bot => rw [EReal.add_bot] at hr; exact absurd hr.symm (EReal.coe_ne_bot r)
    | top => rw [EReal.top_add_top] at hr; exact absurd hr.symm (EReal.coe_ne_top r)
    | coe y => rw [EReal.top_add_coe] at hr; exact absurd hr.symm (EReal.coe_ne_top r)
  | coe x =>
    induction b using EReal.rec with
    | bot => rw [EReal.add_bot] at hr; exact absurd hr.symm (EReal.coe_ne_bot r)
    | top => rw [EReal.coe_add_top] at hr; exact absurd hr.symm (EReal.coe_ne_top r)
    | coe y => exact ⟨⟨x, rfl⟩, ⟨y, rfl⟩⟩

theorem real_of_neg {a : EReal} (h : Real' (-a)) : Real' a := by
  obtain ⟨r, hr⟩ := h
  exact ⟨-r, by rw [EReal.coe_neg, ← hr, neg_neg]⟩

theorem real_of_sum {n : ℕ} {f : Fin n → EReal} (h : Real' (∑ k, f k)) (k : Fin n) : Real' (f k) := by
  rw [← Finset.add_sum_erase _ _ (Finset.mem_univ k)] at h
  exact (real_of_add h).1

theorem mean_mul (f : Fin 2048 → EReal) : mean f = (∑ k, f k) * (((2048 : ℝ)⁻¹ : ℝ) : EReal) := by
  unfold mean
  rw [k2048_real, Ideal.div, if_neg (by norm_num : ((2048 : ℝ) : EReal) ≠ 0), ← EReal.coe_inv]

theorem real_of_mean {f : Fin 2048 → EReal} (h : Real' (mean f)) (k : Fin 2048) : Real' (f k) := by
  refine real_of_sum ?_ k
  rw [mean_mul] at h
  obtain ⟨r, hr⟩ := h
  have hp : (0 : ℝ) < (2048 : ℝ)⁻¹ := by norm_num
  generalize ∑ k, f k = s at hr
  induction s using EReal.rec with
  | bot => rw [EReal.bot_mul_coe_of_pos hp] at hr; exact absurd hr.symm (EReal.coe_ne_bot r)
  | top => rw [EReal.top_mul_coe_of_pos hp] at hr; exact absurd hr.symm (EReal.coe_ne_top r)
  | coe x => exact ⟨x, rfl⟩

/-- One number of a row that is not real leaves none of its centred numbers real. -/
theorem cen_not_real {f : Fin 2048 → EReal} {k : Fin 2048} (h : ¬Real' (f k)) (j : Fin 2048) : ¬Real' (cen f j) := fun hj =>
  h (real_of_mean (real_of_neg (real_of_add (by unfold cen at hj; rwa [sub_eq_add_neg] at hj)).2) k)

theorem mul_self_top {v : EReal} (h : ¬Real' v) : v * v = ⊤ := by
  induction v using EReal.rec with
  | bot => exact EReal.bot_mul_bot
  | top => exact EReal.top_mul_top
  | coe x => exact absurd ⟨x, rfl⟩ h

/-- The reciprocal deviation of numbers none of which is real. -/
theorem rsqrt_zero {f : Fin 2048 → EReal} (h : ∀ k, ¬Real' (f k)) : Ideal.rsqrt (mean (fun k => f k * f k) + kEps) = 0 := by
  obtain ⟨e, -, hke⟩ := kEps_real
  have e1 : (fun k => f k * f k) = fun _ => (⊤ : EReal) := funext fun k => mul_self_top (h k)
  have e2 : ∑ _k : Fin 2048, (⊤ : EReal) = ⊤ := by
    rw [← Finset.add_sum_erase _ _ (Finset.mem_univ (0 : Fin 2048))]
    exact EReal.top_add_of_ne_bot (ne_of_gt (lt_of_lt_of_le EReal.bot_lt_zero (Finset.sum_nonneg fun _ _ => le_top)))
  rw [e1, mean_mul, e2, EReal.top_mul_coe_of_pos (by norm_num), hke, EReal.top_add_coe]
  rfl

/-- The kernel's output and the reference's are equal wherever the gain and the weights are real: a row that is not of real
    numbers has deviation zero in both. -/
theorem qkv_eq {x g b w : Fin 2048 → EReal} {bias : EReal} (hg : ∀ k, Real' (g k)) (hw : ∀ k, Real' (w k)) :
    qkvCell (cen x) (mean (cen x)) (rdev (cen x)) g b w bias = qkvRef x g b w bias := by
  by_cases hx : ∀ k, Real' (x k)
  · exact qkv_eq_real hx hg hw
  · obtain ⟨k, hk⟩ := not_forall.mp hx
    have h1 : ∀ j, ¬Real' (cen x j) := cen_not_real hk
    have h2 : ∀ j, ¬Real' (cen (cen x) j) := cen_not_real (h1 k)
    have r1 : rdev (cen x) = 0 := rsqrt_zero h2
    unfold qkvCell qkvRef
    rw [r1, rsqrt_zero h1]
    simp only [mul_zero, zero_mul, zero_add, mul_comm]

/-- Sixteen slices of 128 lanes summed lane by lane, then over the lanes, are the sum over the row. -/
theorem sum_slices (f : Fin 2048 → EReal) (g : Fin 16 → Fin 128 → EReal) (hg : ∀ a l, g a l = f ⟨a.val * 128 + l.val, by omega⟩) :
    ∑ l, (g 0 l + g 1 l + g 2 l + g 3 l + g 4 l + g 5 l + g 6 l + g 7 l + g 8 l + g 9 l + g 10 l + g 11 l + g 12 l + g 13 l + g 14 l + g 15 l)
      = ∑ k, f k := by
  have e : ∑ a : Fin 16, ∑ l : Fin 128, f ⟨a.val * 128 + l.val, by omega⟩ = ∑ k, f k := by
    rw [← Fintype.sum_prod_type', ← (finProdFinEquiv (m := 16) (n := 128)).sum_comp f]
    refine Finset.sum_congr rfl fun p _ => congrArg f (Fin.ext ?_)
    show p.1.val * 128 + p.2.val = p.2.val + 128 * p.1.val
    omega
  rw [← e, Finset.sum_comm]
  refine Finset.sum_congr rfl fun l _ => ?_
  simp only [← hg]
  simp only [Fin.sum_univ_succ, Fin.sum_univ_zero, add_zero, ← add_assoc]
  rfl

end Cert.Quant

end
-- ==== Proof.Hand.QVals.lean ====
/- The first call's values read at an index: each is a value of `QRows`. -/
module

public import proofs.«01_k».proof.Proof.Hand.QRows
public import proofs.«01_k».proof.Proof.Gen.QkvIdeal.Frame
public import Idealize.ShloMosaic.Lib.Pointwise

@[expose] public section

set_option maxRecDepth 16384

noncomputable section

namespace Cert.QkvIdeal.Hand

open Idealize.ShloMosaic
open Cert.QkvIdeal Cert.QkvIdeal.Gen Cert.Quant

/-- The maximum of a row of zeros. -/
theorem max_zero : Finset.fold max (Ideal.ofBits .f32 4286578688#32) (fun _ : Fin 2048 => (0 : EReal)) Finset.univ = 0 :=
  eq_of_bounds fun c => (foldmax_le _ c).trans ⟨fun h => h 0, fun h _ => h⟩

theorem xs_apply (v : Vec Ideal S128x2048 .bf16) (l : Fin 128) (k : Fin 2048) :
    k0_pay2 v (ix2 l k) = cen (fun k => v (ix2 l k)) k := by
  pointwise [k0_pay2]
  rw [if_pos max_zero, mul_inv2048]
  rfl

theorem mean_apply (v : Vec Ideal S128x2048 .bf16) (l : Fin 128) :
    k0_pay3 v (ix2 l 0) = mean (cen (fun k => v (ix2 l k))) := by
  pointwise [k0_pay3]
  simp only [xs_apply, mul_inv2048]
  rfl

theorem var_apply (v : Vec Ideal S128x2048 .bf16) (l : Fin 128) :
    k0_pay4 v (ix2 l 0) = mean (fun k => (cen (fun k => v (ix2 l k)) k - mean (cen (fun k => v (ix2 l k)))) * (cen (fun k => v (ix2 l k)) k - mean (cen (fun k => v (ix2 l k))))) := by
  pointwise [k0_pay4]
  simp only [xs_apply, mean_apply, mul_inv2048]
  rfl

theorem store_xs (v : Vec Ideal S128x2048 .bf16) (l : Fin 128) (k : Fin 2048) :
    k0_pay5 v (ix2 l k) = cen (fun k => v (ix2 l k)) k := by
  pointwise [k0_pay5]
  exact xs_apply v l k

theorem store_mean (v : Vec Ideal S128x2048 .bf16) (l k : Fin 128) :
    k0_pay7 (k0_pay6 v) (ix2 l k) = mean (cen (fun k => v (ix2 l k))) := by
  pointwise [k0_pay7, k0_pay6]
  exact mean_apply v l

theorem store_rdev (v : Vec Ideal S128x2048 .bf16) (l k : Fin 128) :
    k0_pay8 (k0_pay4 v) (ix2 l k) = rdev (cen (fun k => v (ix2 l k))) := by
  pointwise [k0_pay8]
  rw [var_apply]
  rfl

section Weights

variable (w : Vec Ideal S256x2048 .f32) (g b : Vec Ideal S1x2048 .f32)

theorem w1_apply (n : Fin 256) (k : Fin 2048) : k0_pay13 w g (ix3 0 n k) = w (ix2 n k) * g (ix2 0 k) := by
  pointwise [k0_pay13, k0_pay10, k0_pay9]

theorem w2_apply (n : Fin 256) (k : Fin 2048) :
    k0_pay14 w g (ix3 0 n k) = w (ix2 n k) * g (ix2 0 k) - w (ix2 n k) * g (ix2 0 k) := by
  pointwise [k0_pay14, k0_pay12, k0_pay11, k0_pay10, k0_pay9]

theorem w3_apply (n : Fin 256) (k : Fin 2048) :
    k0_pay15 w g (ix3 0 n k) = (w (ix2 n k) * g (ix2 0 k) - w (ix2 n k) * g (ix2 0 k)) - (w (ix2 n k) * g (ix2 0 k) - w (ix2 n k) * g (ix2 0 k)) := by
  pointwise [k0_pay15, k0_pay12, k0_pay11, k0_pay10, k0_pay9]

theorem csum_apply (n : Fin 256) :
    k0_pay19 (k0_pay9 w g) (k0_pay18 w g) (ix2 0 n) = ∑ k, w (ix2 n k) * g (ix2 0 k) := by
  pointwise [k0_pay19, k0_pay18, k0_pay9]
  refine Eq.trans ?_ (sum_slices (fun k => w (ix2 n k) * g (ix2 0 k)) (fun a l => w (ix2 n ⟨a.val * 128 + l.val, by omega⟩) * g (ix2 0 ⟨a.val * 128 + l.val, by omega⟩)) (fun _ _ => rfl))
  rfl

theorem bsum_apply (n : Fin 256) :
    k0_pay20 (k0_pay16 w b) (k0_pay17 w b) (ix2 0 n) = ∑ k, w (ix2 n k) * b (ix2 0 k) := by
  pointwise [k0_pay20, k0_pay17, k0_pay16]
  refine Eq.trans ?_ (sum_slices (fun k => w (ix2 n k) * b (ix2 0 k)) (fun a l => w (ix2 n ⟨a.val * 128 + l.val, by omega⟩) * b (ix2 0 ⟨a.val * 128 + l.val, by omega⟩)) (fun _ _ => rfl))
  rfl

end Weights

end Cert.QkvIdeal.Hand

end
-- ==== Proof.Hand.QCells.lean ====
/- The first call's stores of a grid point, from the blocks it loads and the three scratch buffers it keeps: the three
   pieces of the output block and what they hold at an index. -/
module

public import proofs.«01_k».proof.Proof.Hand.QVals
public import Idealize.ShloMosaic.Lib.WholeRead
public import Idealize.ShloMosaic.Lib.Pipeline.ValueKit.Basic
public import Idealize.ShloMosaic.Lib.Pipeline.ValueKit.Acc
public import Idealize.ShloMosaic.Lib.Pipeline.ValueKit.Tiles

@[expose] public section

set_option maxRecDepth 16384

noncomputable section

namespace Cert.QkvIdeal.Hand

open Idealize.ShloMosaic
open Cert.QkvIdeal Cert.QkvIdeal.Gen Cert.Quant

/-- A load from a whole buffer whose contents are given. -/
theorem readAt_unread_ld {S : Shape} {κ : Kind} {sp : Space} {e : EltTy} {mr : Memref sig κ sp S e} (h : mr.IsWhole)
    (X : Vec Ideal S e) (r : Rect S) : View.readAt (Elt Ideal) mr.view r.toLoadRect (h.unread X) = View.ld X r :=
  funext fun x => h.readAt_unread X r.toLoadRect x

/-- A covered load reads the canon of the writes. -/
theorem readCov_ld {S : Shape} {κ : Kind} {sp : Space} {e : EltTy} (v : View sig κ sp S e)
    (L : List (View.Piece (Elt Ideal) S e)) (r : Rect S) :
    v.readCov L r.toLoadRect = View.ld (View.canon L) r :=
  View.readCov_eq_canon' v L r.toLoadRect

/-- Where a rectangle's index stands in the shape. -/
theorem emb_val {S : Shape} (off size : Fin S.rank → ℕ) (inb : ∀ a, off a + size a ≤ S.size a) (x : (Rect.unit off size inb).shape.Idx) (a : Fin S.rank) :
    ((Rect.unit off size inb).emb x a : ℕ) = off a + x a :=
  Rect.idx_unit_val off size inb x a

/-- A load of the rectangle last stored reads the store. -/
theorem ld_cons_same {S : Shape} {e : EltTy} (r : Rect S) (v : r.shape.Idx → Elt Ideal e) (L : List (View.Piece (Elt Ideal) S e)) :
    View.ld (View.canon (⟨r, v⟩ :: L)) r = v :=
  funext fun x => View.canon_cons_emb r v L x

/-- A load apart from the last store reads the stores before it. -/
theorem ld_cons_skip {S : Shape} {e : EltTy} (p : View.Piece (Elt Ideal) S e) (L : List (View.Piece (Elt Ideal) S e)) (r : Rect S)
    (h : ∀ x, r.emb x ∉ p.1.set) : View.ld (View.canon (p :: L)) r = View.ld (View.canon L) r :=
  funext fun x => View.canon_cons_of_not_mem p L (h x)

variable (w : Vec Ideal S256x2048 .f32) (g b : Vec Ideal S1x2048 .f32) (t : Vec Ideal S1x256 .f32)

/-! ## The weights' three parts -/

/-- The stores of the three parts, the last first. -/
@[reducible] def parts : List (View.Piece (Elt Ideal) S3x256x2048 .bf16) :=
  [⟨Rect.unit ![2, 0, 0] S1x256x2048.size inb_S3x256x2048_S1x256x2048_2_0_0, k0_pay15 w g⟩,
   ⟨Rect.unit ![1, 0, 0] S1x256x2048.size inb_S3x256x2048_S1x256x2048_1_0_0, k0_pay14 w g⟩,
   ⟨Rect.unit ![0, 0, 0] S1x256x2048.size inb_S3x256x2048_S1x256x2048_0_0_0, k0_pay13 w g⟩]

theorem part_not_mem {o o' : ℕ} (ho : o' ≠ o) (inb : ∀ a, (![o, 0, 0] : Fin 3 → ℕ) a + S1x256x2048.size a ≤ S3x256x2048.size a)
    (inb' : ∀ a, (![o', 0, 0] : Fin 3 → ℕ) a + S1x256x2048.size a ≤ S3x256x2048.size a) (x : S1x256x2048.Idx) :
    (Rect.unit (s := S3x256x2048) ![o', 0, 0] S1x256x2048.size inb').emb x ∉ (Rect.unit (s := S3x256x2048) ![o, 0, 0] S1x256x2048.size inb).set := by
  intro h
  have h0 := Rect.mem_set_unit.mp h 0
  have e : (((Rect.unit (s := S3x256x2048) ![o', 0, 0] S1x256x2048.size inb').emb x 0 : Fin _) : ℕ) = o' + (x 0).val :=
    emb_val (S := S3x256x2048) ![o', 0, 0] S1x256x2048.size inb' x 0
  have hx : (x 0).val < 1 := (x 0).isLt
  rw [e] at h0
  have h1 : o ≤ o' + (x 0).val := h0.1
  have h2 : o' + (x 0).val < o + 1 := h0.2
  omega

theorem part3 : View.ld (View.canon (parts w g)) (Rect.unit ![2, 0, 0] S1x256x2048.size inb_S3x256x2048_S1x256x2048_2_0_0) = k0_pay15 w g := by
  unfold parts
  exact ld_cons_same _ _ _

theorem part2 : View.ld (View.canon (parts w g)) (Rect.unit ![1, 0, 0] S1x256x2048.size inb_S3x256x2048_S1x256x2048_1_0_0) = k0_pay14 w g := by
  unfold parts
  exact (ld_cons_skip _ _ _ (part_not_mem (by decide) inb_S3x256x2048_S1x256x2048_2_0_0 inb_S3x256x2048_S1x256x2048_1_0_0)).trans (ld_cons_same _ _ _)

theorem part1 : View.ld (View.canon (parts w g)) (Rect.unit ![0, 0, 0] S1x256x2048.size inb_S3x256x2048_S1x256x2048_0_0_0) = k0_pay13 w g := by
  unfold parts
  exact (ld_cons_skip _ _ _ (part_not_mem (by decide) inb_S3x256x2048_S1x256x2048_2_0_0 inb_S3x256x2048_S1x256x2048_0_0_0)).trans
    ((ld_cons_skip _ _ _ (part_not_mem (by decide) inb_S3x256x2048_S1x256x2048_1_0_0 inb_S3x256x2048_S1x256x2048_0_0_0)).trans (ld_cons_same _ _ _))

/-! ## A store of 512 rows -/

/-- 512 rows of the output block, from the rows of the scratch buffers. -/
def rows512 (xs : Vec Ideal S512x2048 .bf16) (mu r : Vec Ideal S512x1 .f32) (l : Fin 512) (n : Fin 256) : EReal :=
  qkvCell (fun k => xs (ix2 l k)) (mu (ix2 l 0)) (r (ix2 l 0)) (fun k => g (ix2 0 k)) (fun k => b (ix2 0 k)) (fun k => w (ix2 n k)) (t (ix2 0 n))

variable (xs : Vec Ideal S512x2048 .bf16) (mu r : Vec Ideal S512x1 .f32)

/-- The weights' row sums the body takes. -/
abbrev csum : FVec Ideal S1x256 .f32 := k0_pay19 (k0_pay9 w g) (k0_pay18 w g)
abbrev bsum : FVec Ideal S1x256 .f32 := k0_pay20 (k0_pay16 w b) (k0_pay17 w b)

theorem store1_apply (c bs t : Vec Ideal S1x256 .f32) (p3 p2 p1 : Vec Ideal S1x256x2048 .bf16) (l : Fin 512) (n : Fin 256) :
    k0_pay22 c bs t xs p3 p2 p1 mu r (ix2 l n) = r (ix2 l 0) * (((∑ k, xs (ix2 l k) * p3 (ix3 0 n k)) + (∑ k, xs (ix2 l k) * p2 (ix3 0 n k))
      + ∑ k, xs (ix2 l k) * p1 (ix3 0 n k)) - mu (ix2 l 0) * c (ix2 0 n)) + (bs (ix2 0 n) + t (ix2 0 n)) := by
  pointwise [k0_pay22, k0_pay21]

theorem store2_apply (c bs t : Vec Ideal S1x256 .f32) (p3 p2 p1 : Vec Ideal S1x256x2048 .bf16) (l : Fin 512) (n : Fin 256) :
    k0_pay24 c (k0_pay21 bs t) xs (k0_pay23 xs p3) p2 p1 mu r (ix2 l n) = r (ix2 l 0) * (((∑ k, xs (ix2 l k) * p3 (ix3 0 n k)) + (∑ k, xs (ix2 l k) * p2 (ix3 0 n k))
      + ∑ k, xs (ix2 l k) * p1 (ix3 0 n k)) - mu (ix2 l 0) * c (ix2 0 n)) + (bs (ix2 0 n) + t (ix2 0 n)) := by
  pointwise [k0_pay24, k0_pay21, k0_pay23]

theorem store3_apply (c bs t : Vec Ideal S1x256 .f32) (p3 p2 p1 : Vec Ideal S1x256x2048 .bf16) (l : Fin 512) (n : Fin 256) :
    k0_pay1 c (k0_pay21 bs t) (k0_pay25 xs p3 p2 p1) mu r (ix2 l n) = r (ix2 l 0) * (((∑ k, xs (ix2 l k) * p3 (ix3 0 n k)) + (∑ k, xs (ix2 l k) * p2 (ix3 0 n k))
      + ∑ k, xs (ix2 l k) * p1 (ix3 0 n k)) - mu (ix2 l 0) * c (ix2 0 n)) + (bs (ix2 0 n) + t (ix2 0 n)) := by
  pointwise [k0_pay1, k0_pay21, k0_pay25]

theorem rows1 (l : Fin 512) (n : Fin 256) :
    k0_pay22 (csum w g) (bsum w b) t xs (k0_pay15 w g) (k0_pay14 w g) (k0_pay13 w g) mu r (ix2 l n) = rows512 w g b t xs mu r l n := by
  rw [store1_apply]; simp only [w1_apply, w2_apply, w3_apply, csum, bsum, csum_apply, bsum_apply]; rfl

theorem rows2 (l : Fin 512) (n : Fin 256) :
    k0_pay24 (csum w g) (k0_pay21 (bsum w b) t) xs (k0_pay23 xs (k0_pay15 w g)) (k0_pay14 w g) (k0_pay13 w g) mu r (ix2 l n) = rows512 w g b t xs mu r l n := by
  rw [store2_apply]; simp only [w1_apply, w2_apply, w3_apply, csum, bsum, csum_apply, bsum_apply]; rfl

theorem rows3 (l : Fin 512) (n : Fin 256) :
    k0_pay1 (csum w g) (k0_pay21 (bsum w b) t) (k0_pay25 xs (k0_pay15 w g) (k0_pay14 w g) (k0_pay13 w g)) mu r (ix2 l n) = rows512 w g b t xs mu r l n := by
  rw [store3_apply]; simp only [w1_apply, w2_apply, w3_apply, csum, bsum, csum_apply, bsum_apply]; rfl

/-! ## The output block -/

variable (X : Vec Ideal S1536x2048 .bf16) (M R : Vec Ideal S1536x128 .f32)

/-- The output block's three stores, the last first, over the scratch buffers' contents. -/
def outL : List (View.Piece (Elt Ideal) S1536x256 .f32) :=
  [⟨Rect.unit ![1024, 0] S512x256.size inb_S1536x256_S512x256_1024_0,
      k0_pay1 (csum w g) (k0_pay21 (bsum w b) t)
        (k0_pay25 (View.ld X (Rect.unit ![1024, 0] S512x2048.size inb_S1536x2048_S512x2048_1024_0)) (k0_pay15 w g) (k0_pay14 w g) (k0_pay13 w g))
        (View.ld M (Rect.unit ![1024, 0] S512x1.size inb_S1536x128_S512x1_1024_0)) (View.ld R (Rect.unit ![1024, 0] S512x1.size inb_S1536x128_S512x1_1024_0))⟩,
   ⟨Rect.unit ![512, 0] S512x256.size inb_S1536x256_S512x256_512_0,
      k0_pay24 (csum w g) (k0_pay21 (bsum w b) t) (View.ld X (Rect.unit ![512, 0] S512x2048.size inb_S1536x2048_S512x2048_512_0))
        (k0_pay23 (View.ld X (Rect.unit ![512, 0] S512x2048.size inb_S1536x2048_S512x2048_512_0)) (k0_pay15 w g)) (k0_pay14 w g) (k0_pay13 w g)
        (View.ld M (Rect.unit ![512, 0] S512x1.size inb_S1536x128_S512x1_512_0)) (View.ld R (Rect.unit ![512, 0] S512x1.size inb_S1536x128_S512x1_512_0))⟩,
   ⟨Rect.unit ![0, 0] S512x256.size inb_S1536x256_S512x256_0_0,
      k0_pay22 (csum w g) (bsum w b) t (View.ld X (Rect.unit ![0, 0] S512x2048.size inb_S1536x2048_S512x2048_0_0)) (k0_pay15 w g) (k0_pay14 w g) (k0_pay13 w g)
        (View.ld M (Rect.unit ![0, 0] S512x1.size inb_S1536x128_S512x1_0_0)) (View.ld R (Rect.unit ![0, 0] S512x1.size inb_S1536x128_S512x1_0_0))⟩]

/-- The output block at an index. -/
def outCell (i : S1536x256.Idx) : EReal :=
  qkvCell (fun k => X (ix2 (i 0) k)) (M (ix2 (i 0) 0)) (R (ix2 (i 0) 0)) (fun k => g (ix2 0 k)) (fun k => b (ix2 0 k)) (fun k => w (ix2 (i 1) k)) (t (ix2 0 (i 1)))

/-- 512 rows of the scratch buffers from row `o` on give the output block's rows from `o` on. -/
theorem rows512_eq (o : ℕ) (hX : ∀ a, (![o, 0] : Fin 2 → ℕ) a + S512x2048.size a ≤ S1536x2048.size a)
    (hM : ∀ a, (![o, 0] : Fin 2 → ℕ) a + S512x1.size a ≤ S1536x128.size a)
    (hO : ∀ a, (![o, 0] : Fin 2 → ℕ) a + S512x256.size a ≤ S1536x256.size a) (l : Fin 512) (n : Fin 256) :
    rows512 w g b t (View.ld X (Rect.unit ![o, 0] S512x2048.size hX)) (View.ld M (Rect.unit ![o, 0] S512x1.size hM)) (View.ld R (Rect.unit ![o, 0] S512x1.size hM)) l n
      = outCell w g b t X M R ((Rect.unit (s := S1536x256) ![o, 0] S512x256.size hO).emb (ix2 l n)) := by
  have h0 : (((Rect.unit (s := S1536x256) ![o, 0] S512x256.size hO).emb (ix2 l n) 0 : Fin 1536) : ℕ) = o + l.val := emb_val (S := S1536x256) ![o, 0] S512x256.size hO (ix2 l n) 0
  have h1 : (Rect.unit (s := S1536x256) ![o, 0] S512x256.size hO).emb (ix2 l n) 1 = n := Fin.ext ((emb_val (S := S1536x256) ![o, 0] S512x256.size hO (ix2 l n) 1).trans (Nat.zero_add _))
  have eX : ∀ k, View.ld X (Rect.unit ![o, 0] S512x2048.size hX) (ix2 l k) = X (ix2 ((Rect.unit (s := S1536x256) ![o, 0] S512x256.size hO).emb (ix2 l n) 0) k) := fun k =>
    View.ld_unit_apply_of X _ _ hX _ _ fun a => by
      match a with
      | 0 => exact h0
      | 1 => exact (Nat.zero_add _).symm
  have eM : ∀ Y : Vec Ideal S1536x128 .f32, View.ld Y (Rect.unit ![o, 0] S512x1.size hM) (ix2 l 0) = Y (ix2 ((Rect.unit (s := S1536x256) ![o, 0] S512x256.size hO).emb (ix2 l n) 0) 0) := fun Y =>
    View.ld_unit_apply_of Y _ _ hM _ _ fun a => by
      match a with
      | 0 => exact h0
      | 1 => rfl
  unfold rows512 outCell
  rw [h1, eM, eM]
  simp only [eX]

/-- The three stores fill the output block with it. -/
theorem canon_outL (hc : ∀ y, ∃ p ∈ outL w g b t X M R, y ∈ p.1.set) : View.canon (outL w g b t X M R) = outCell w g b t X M R := by
  funext y
  refine View.canon_apply_of_pieces (Val := Elt Ideal) (outCell w g b t X M R) (outL w g b t X M R) ?_ y (hc y)
  intro p hp
  simp only [outL, List.mem_cons, List.not_mem_nil, or_false] at hp
  rcases hp with rfl | rfl | rfl
  · intro x
    obtain ⟨l, n, rfl⟩ : ∃ (l : Fin 512) (n : Fin 256), x = ix2 l n := ⟨x 0, x 1, eq_ix2 x⟩
    exact (rows3 w g b t _ _ _ l n).trans (rows512_eq w g b t X M R 1024 _ _ inb_S1536x256_S512x256_1024_0 l n)
  · intro x
    obtain ⟨l, n, rfl⟩ : ∃ (l : Fin 512) (n : Fin 256), x = ix2 l n := ⟨x 0, x 1, eq_ix2 x⟩
    exact (rows2 w g b t _ _ _ l n).trans (rows512_eq w g b t X M R 512 _ _ inb_S1536x256_S512x256_512_0 l n)
  · intro x
    obtain ⟨l, n, rfl⟩ : ∃ (l : Fin 512) (n : Fin 256), x = ix2 l n := ⟨x 0, x 1, eq_ix2 x⟩
    exact (rows1 w g b t _ _ _ l n).trans (rows512_eq w g b t X M R 0 _ _ inb_S1536x256_S512x256_0_0 l n)

end Cert.QkvIdeal.Hand

end
-- ==== Proof.Hand.QLoop.lean ====
/- The first call's loop at its first grid point: the three scratch buffers it leaves. -/
module

public import proofs.«01_k».proof.Proof.Hand.QCells

@[expose] public section

set_option maxRecDepth 16384

noncomputable section

namespace Cert.QkvIdeal.Hand

open Idealize.ShloMosaic Idealize.ShloMosaic.TcCoe Idealize.SL.Sem
open Cert.QkvIdeal Cert.QkvIdeal.Gen Cert.Quant

/-- The centred rows. -/
def xsOf (x : Vec Ideal S1536x2048 .bf16) : S1536x2048.Idx → EReal := fun i => cen (fun k => x (ix2 (i 0) k)) (i 1)
/-- Their means. -/
def meanOf (x : Vec Ideal S1536x2048 .bf16) : S1536x128.Idx → EReal := fun i => mean (cen (fun k => x (ix2 (i 0) k)))
/-- One over their deviations. -/
def rdevOf (x : Vec Ideal S1536x2048 .bf16) : S1536x128.Idx → EReal := fun i => rdev (cen (fun k => x (ix2 (i 0) k)))

/-- A row loaded from offset `off` is the row the store at the same row offset goes to. -/
theorem row_eq (x : Vec Ideal S1536x2048 .bf16) (off : Fin 2 → ℕ) (h1 : off 1 = 0)
    (inb : ∀ a, off a + S128x2048.size a ≤ S1536x2048.size a) (l : Fin 128) (q : Fin 1536) (hq : q.val = off 0 + l.val) :
    (fun k => View.ld x (Rect.unit off S128x2048.size inb) (ix2 l k)) = fun k => x (ix2 q k) :=
  funext fun k => View.ld_unit_apply_of x _ _ inb _ _ fun a => by
    match a with
    | 0 => exact hq
    | 1 => exact ((congrArg (· + k.val) h1).trans (Nat.zero_add _)).symm

/-- The loop's offsets: some row, column 0, the same for all three buffers. -/
theorem offs (k : Fin k0_t1_loop.trips) : k0_off2 k 0 = k0_off1 k 0 ∧ k0_off1 k 1 = 0 ∧ k0_off2 k 1 = 0 := ⟨rfl, rfl, rfl⟩

theorem piece_xs (x : Vec Ideal S1536x2048 .bf16) (k : Fin k0_t1_loop.trips) (inb : ∀ a, k0_off1 k a + S128x2048.size a ≤ S1536x2048.size a) (y : S128x2048.Idx) :
    k0_pay5 (View.ld x (Rect.unit (k0_off1 k) S128x2048.size inb)) y = xsOf x ((Rect.unit (s := S1536x2048) (k0_off1 k) S128x2048.size inb).emb y) := by
  obtain ⟨l, j, rfl⟩ : ∃ (l : Fin 128) (j : Fin 2048), y = ix2 l j := ⟨y 0, y 1, eq_ix2 y⟩
  rw [store_xs]
  have h0 : (((Rect.unit (s := S1536x2048) (k0_off1 k) S128x2048.size inb).emb (ix2 l j) 0 : Fin 1536) : ℕ) = k0_off1 k 0 + l.val := emb_val (S := S1536x2048) (k0_off1 k) S128x2048.size inb (ix2 l j) 0
  have h1 : (Rect.unit (s := S1536x2048) (k0_off1 k) S128x2048.size inb).emb (ix2 l j) 1 = j := Fin.ext ((emb_val (S := S1536x2048) (k0_off1 k) S128x2048.size inb (ix2 l j) 1).trans ((congrArg (· + j.val) (offs k).2.1).trans (Nat.zero_add _)))
  unfold xsOf
  rw [h1, row_eq x (k0_off1 k) (offs k).2.1 inb l _ h0]

theorem piece_mean (x : Vec Ideal S1536x2048 .bf16) (k : Fin k0_t1_loop.trips) (inb : ∀ a, k0_off1 k a + S128x2048.size a ≤ S1536x2048.size a)
    (inb' : ∀ a, k0_off2 k a + S128x128.size a ≤ S1536x128.size a) (y : S128x128.Idx) :
    k0_pay7 (k0_pay6 (View.ld x (Rect.unit (k0_off1 k) S128x2048.size inb))) y = meanOf x ((Rect.unit (s := S1536x128) (k0_off2 k) S128x128.size inb').emb y) := by
  obtain ⟨l, j, rfl⟩ : ∃ (l : Fin 128) (j : Fin 128), y = ix2 l j := ⟨y 0, y 1, eq_ix2 y⟩
  rw [store_mean]
  have h0 : (((Rect.unit (s := S1536x128) (k0_off2 k) S128x128.size inb').emb (ix2 l j) 0 : Fin 1536) : ℕ) = k0_off1 k 0 + l.val := emb_val (S := S1536x128) (k0_off2 k) S128x128.size inb' (ix2 l j) 0
  unfold meanOf
  rw [row_eq x (k0_off1 k) (offs k).2.1 inb l _ h0]

theorem piece_rdev (x : Vec Ideal S1536x2048 .bf16) (k : Fin k0_t1_loop.trips) (inb : ∀ a, k0_off1 k a + S128x2048.size a ≤ S1536x2048.size a)
    (inb' : ∀ a, k0_off2 k a + S128x128.size a ≤ S1536x128.size a) (y : S128x128.Idx) :
    k0_pay8 (k0_pay4 (View.ld x (Rect.unit (k0_off1 k) S128x2048.size inb))) y = rdevOf x ((Rect.unit (s := S1536x128) (k0_off2 k) S128x128.size inb').emb y) := by
  obtain ⟨l, j, rfl⟩ : ∃ (l : Fin 128) (j : Fin 128), y = ix2 l j := ⟨y 0, y 1, eq_ix2 y⟩
  rw [store_rdev]
  have h0 : (((Rect.unit (s := S1536x128) (k0_off2 k) S128x128.size inb').emb (ix2 l j) 0 : Fin 1536) : ℕ) = k0_off1 k 0 + l.val := emb_val (S := S1536x128) (k0_off2 k) S128x128.size inb' (ix2 l j) 0
  unfold rdevOf
  rw [row_eq x (k0_off1 k) (offs k).2.1 inb l _ h0]

variable (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1536x2048 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S3x256x2048 .bf16) (harg10 : arg10.IsWhole)
  (x0 : Vec Ideal S1536x2048 .bf16)

/-- Every store of a trip is the rows it stands at. -/
theorem trip_pieces (k0_h1 : k0_cond1 i = 1#1) (k : Fin k0_t1_loop.trips) :
    (∀ p ∈ (tripL_k0_t1 (F := Ideal) Variants.none c none i arg1 harg1 arg2 harg2 arg3 harg3 arg4 harg4 arg5 harg5 arg6 harg6 arg7 harg7 arg8 harg8 arg9 harg9 arg10 harg10 k0_h1 (harg1.unread x0) k).1, ∀ y, p.2 y = xsOf x0 (p.1.emb y))
    ∧ (∀ p ∈ (tripL_k0_t1 (F := Ideal) Variants.none c none i arg1 harg1 arg2 harg2 arg3 harg3 arg4 harg4 arg5 harg5 arg6 harg6 arg7 harg7 arg8 harg8 arg9 harg9 arg10 harg10 k0_h1 (harg1.unread x0) k).2.1, ∀ y, p.2 y = meanOf x0 (p.1.emb y))
    ∧ (∀ p ∈ (tripL_k0_t1 (F := Ideal) Variants.none c none i arg1 harg1 arg2 harg2 arg3 harg3 arg4 harg4 arg5 harg5 arg6 harg6 arg7 harg7 arg8 harg8 arg9 harg9 arg10 harg10 k0_h1 (harg1.unread x0) k).2.2, ∀ y, p.2 y = rdevOf x0 (p.1.emb y)) := by
  unfold tripL_k0_t1 trip_k0_t1
  dsimp only [trip_k0_t1.sl.r, trip_k0_t1.sl.r_1]
  simp only [List.mem_singleton]
  have e := readAt_unread_ld harg1 x0 (Rect.unit (k0_off1 k) S128x2048.size (facts.k0_off1_inb i k k0_h1))
  refine ⟨?_, ?_, ?_⟩
  · rintro p rfl y
    exact (congrFun (congrArg k0_pay5 e) y).trans (piece_xs x0 k (facts.k0_off1_inb i k k0_h1) y)
  · rintro p rfl y
    exact (congrFun (congrArg (fun v => k0_pay7 (k0_pay6 v)) e) y).trans (piece_mean x0 k (facts.k0_off1_inb i k k0_h1) (facts.k0_off2_inb i k k0_h1) y)
  · rintro p rfl y
    exact (congrFun (congrArg (fun v => k0_pay8 (k0_pay4 v)) e) y).trans (piece_rdev x0 k (facts.k0_off1_inb i k k0_h1) (facts.k0_off2_inb i k k0_h1) y)

/-- So is every store of the loop. -/
theorem loop_pieces (k0_h1 : k0_cond1 i = 1#1) (n : ℕ) (hn : n ≤ k0_t1_loop.trips) :
    (∀ p ∈ (pb_k0_t1 (F := Ideal) Variants.none c none i arg1 harg1 arg2 harg2 arg3 harg3 arg4 harg4 arg5 harg5 arg6 harg6 arg7 harg7 arg8 harg8 arg9 harg9 arg10 harg10 k0_h1 (harg1.unread x0) n).1, ∀ y, p.2 y = xsOf x0 (p.1.emb y))
    ∧ (∀ p ∈ (pb_k0_t1 (F := Ideal) Variants.none c none i arg1 harg1 arg2 harg2 arg3 harg3 arg4 harg4 arg5 harg5 arg6 harg6 arg7 harg7 arg8 harg8 arg9 harg9 arg10 harg10 k0_h1 (harg1.unread x0) n).2.1, ∀ y, p.2 y = meanOf x0 (p.1.emb y))
    ∧ (∀ p ∈ (pb_k0_t1 (F := Ideal) Variants.none c none i arg1 harg1 arg2 harg2 arg3 harg3 arg4 harg4 arg5 harg5 arg6 harg6 arg7 harg7 arg8 harg8 arg9 harg9 arg10 harg10 k0_h1 (harg1.unread x0) n).2.2, ∀ y, p.2 y = rdevOf x0 (p.1.emb y)) := by
  induction n with
  | zero =>
    refine ⟨?_, ?_, ?_⟩ <;> (intro p hp; exact absurd hp List.not_mem_nil)
  | succ n ih =>
    obtain ⟨h1, h2, h3⟩ := ih (Nat.le_of_succ_le hn)
    obtain ⟨t1, t2, t3⟩ := trip_pieces c i arg1 harg1 arg2 harg2 arg3 harg3 arg4 harg4 arg5 harg5 arg6 harg6 arg7 harg7 arg8 harg8 arg9 harg9 arg10 harg10 x0 k0_h1 ⟨n, hn⟩
    rw [pb_k0_t1_succ (F := Ideal) Variants.none c none i arg1 harg1 arg2 harg2 arg3 harg3 arg4 harg4 arg5 harg5 arg6 harg6 arg7 harg7 arg8 harg8 arg9 harg9 arg10 harg10 k0_h1 (harg1.unread x0) ⟨n, hn⟩]
    refine ⟨?_, ?_, ?_⟩ <;> intro p hp <;> rcases List.mem_append.mp hp with h | h
    · exact t1 p h
    · exact h1 p h
    · exact t2 p h
    · exact h2 p h
    · exact t3 p h
    · exact h3 p h

end Cert.QkvIdeal.Hand

end
-- ==== Proof.Hand.QOut.lean ====
/- What a grid point of the first call leaves: the output block, and at the first point the three scratch buffers. -/
module

public import proofs.«01_k».proof.Proof.Hand.QLoop

@[expose] public section

set_option maxRecDepth 16384

noncomputable section

namespace Cert.QkvIdeal.Hand

open Idealize.ShloMosaic Idealize.ShloMosaic.TcCoe Idealize.SL.Sem
open Cert.QkvIdeal Cert.QkvIdeal.Gen Cert.Quant

/-- A view whose stores cover it reads their canon. -/
theorem read_canon {S : Shape} {κ : Kind} {sp : Space} {e : EltTy} (v : View sig κ sp S e) (f : v.ty.Contents (Elt Ideal))
    (L : List (View.Piece (Elt Ideal) S e)) (h : ∀ y, ∃ p ∈ L, y ∈ p.1.set) : v.read (Elt Ideal) (v.writes (Elt Ideal) f L) = View.canon L :=
  View.read_writes_eq_canon v f L h

/-- Loads of whole blocks. -/
theorem ld_w (w : Vec Ideal S256x2048 .f32) : View.ld w (Rect.unit ![0, 0] S256x2048.size inb_S256x2048_S256x2048_0_0) = w :=
  View.ld_unit_lit _ w (by decide)
theorem ld_g (g : Vec Ideal S1x2048 .f32) : View.ld g (Rect.unit ![0, 0] S1x2048.size inb_S1x2048_S1x2048_0_0) = g :=
  View.ld_unit_lit _ g (by decide)
theorem ld_t (t : Vec Ideal S1x256 .f32) : View.ld t (Rect.unit ![0, 0] S1x256.size inb_S1x256_S1x256_0_0) = t :=
  View.ld_unit_lit _ t (by decide)

variable (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S1x256 .f32) (harg5 : arg5.IsWhole) (arg6 : Memref sig .tc .vmem S1536x256 .f32) (harg6 : arg6.IsWhole) (arg7 : Memref sig .tc .vmem S1536x2048 .bf16) (harg7 : arg7.IsWhole) (arg8 : Memref sig .tc .vmem S1536x128 .f32) (harg8 : arg8.IsWhole) (arg9 : Memref sig .tc .vmem S1536x128 .f32) (harg9 : arg9.IsWhole) (arg10 : Memref sig .tc .vmem S3x256x2048 .bf16) (harg10 : arg10.IsWhole)
  (x0 : Vec Ideal S1536x2048 .bf16) (x1 x2 : Vec Ideal S1x2048 .f32) (x3 : Vec Ideal S256x2048 .f32) (x4 : Vec Ideal S1x256 .f32)
  (xs0 : Vec Ideal S1536x2048 .bf16) (xs1 xs2 : Vec Ideal S1536x128 .f32)

set_option maxHeartbeats 1000000 in
/-- A later point's stores. -/
theorem pieces_B (hc : ¬cond0_0 i) :
    (kernelRun0_B (F := Ideal) c i arg1 harg1 arg2 harg2 arg3 harg3 arg4 harg4 arg5 harg5 arg6 harg6 arg7 harg7 arg8 harg8 arg9 harg9 arg10 harg10 hc x0 x1 x2 x3 x4 xs0 xs1 xs2).1 = outL x3 x1 x2 x4 xs0 xs1 xs2 := by
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.v97, kernelRun0_B.sl.v100, kernelRun0_B.sl.v104, kernelRun0_B.sl.HS3_3]
  have hw := (readAt_unread_ld harg4 x3 (Rect.unit ![0, 0] S256x2048.size inb_S256x2048_S256x2048_0_0)).trans (ld_w x3)
  have hg := (readAt_unread_ld harg2 x1 (Rect.unit ![0, 0] S1x2048.size inb_S1x2048_S1x2048_0_0)).trans (ld_g x1)
  have hb := (readAt_unread_ld harg3 x2 (Rect.unit ![0, 0] S1x2048.size inb_S1x2048_S1x2048_0_0)).trans (ld_g x2)
  have ht := (readAt_unread_ld harg5 x4 (Rect.unit ![0, 0] S1x256.size inb_S1x256_S1x256_0_0)).trans (ld_t x4)
  rw [hw, hg, hb, ht]
  have e1 := (readCov_ld arg10.view (parts x3 x1) (Rect.unit ![0, 0, 0] S1x256x2048.size inb_S3x256x2048_S1x256x2048_0_0_0)).trans (part1 x3 x1)
  have e2 := (readCov_ld arg10.view (parts x3 x1) (Rect.unit ![1, 0, 0] S1x256x2048.size inb_S3x256x2048_S1x256x2048_1_0_0)).trans (part2 x3 x1)
  have e3 := (readCov_ld arg10.view (parts x3 x1) (Rect.unit ![2, 0, 0] S1x256x2048.size inb_S3x256x2048_S1x256x2048_2_0_0)).trans (part3 x3 x1)
  rw [e3, e2, e1]
  simp only [readAt_unread_ld, readCov_ld]
  rfl

set_option maxHeartbeats 1000000 in
/-- The first point's stores. -/
theorem pieces_A (hc : cond0_0 i) :
    (kernelRun0_A (F := Ideal) c i arg1 harg1 arg2 harg2 arg3 harg3 arg4 harg4 arg5 harg5 arg6 harg6 arg7 harg7 arg8 harg8 arg9 harg9 arg10 harg10 hc x0 x1 x2 x3 x4).1
      = outL x3 x1 x2 x4 (View.canon (kernelRun0_A (F := Ideal) c i arg1 harg1 arg2 harg2 arg3 harg3 arg4 harg4 arg5 harg5 arg6 harg6 arg7 harg7 arg8 harg8 arg9 harg9 arg10 harg10 hc x0 x1 x2 x3 x4).2.1)
          (View.canon (kernelRun0_A (F := Ideal) c i arg1 harg1 arg2 harg2 arg3 harg3 arg4 harg4 arg5 harg5 arg6 harg6 arg7 harg7 arg8 harg8 arg9 harg9 arg10 harg10 hc x0 x1 x2 x3 x4).2.2.1) (View.canon (kernelRun0_A (F := Ideal) c i arg1 harg1 arg2 harg2 arg3 harg3 arg4 harg4 arg5 harg5 arg6 harg6 arg7 harg7 arg8 harg8 arg9 harg9 arg10 harg10 hc x0 x1 x2 x3 x4).2.2.2.1) := by
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.v97, kernelRun0_A.sl.v100, kernelRun0_A.sl.v104, kernelRun0_A.sl.HS3_3]
  have hw := (readAt_unread_ld harg4 x3 (Rect.unit ![0, 0] S256x2048.size inb_S256x2048_S256x2048_0_0)).trans (ld_w x3)
  have hg := (readAt_unread_ld harg2 x1 (Rect.unit ![0, 0] S1x2048.size inb_S1x2048_S1x2048_0_0)).trans (ld_g x1)
  have hb := (readAt_unread_ld harg3 x2 (Rect.unit ![0, 0] S1x2048.size inb_S1x2048_S1x2048_0_0)).trans (ld_g x2)
  have ht := (readAt_unread_ld harg5 x4 (Rect.unit ![0, 0] S1x256.size inb_S1x256_S1x256_0_0)).trans (ld_t x4)
  rw [hw, hg, hb, ht]
  have e1 := (readCov_ld arg10.view (parts x3 x1) (Rect.unit ![0, 0, 0] S1x256x2048.size inb_S3x256x2048_S1x256x2048_0_0_0)).trans (part1 x3 x1)
  have e2 := (readCov_ld arg10.view (parts x3 x1) (Rect.unit ![1, 0, 0] S1x256x2048.size inb_S3x256x2048_S1x256x2048_1_0_0)).trans (part2 x3 x1)
  have e3 := (readCov_ld arg10.view (parts x3 x1) (Rect.unit ![2, 0, 0] S1x256x2048.size inb_S3x256x2048_S1x256x2048_2_0_0)).trans (part3 x3 x1)
  rw [e3, e2, e1]
  simp only [readAt_unread_ld, readCov_ld]
  rfl

/-- The first point leaves the centred rows, their means and deviations in the scratch buffers. -/
theorem canon_A0 (hc : cond0_0 i) :
    View.canon (kernelRun0_A (F := Ideal) c i arg1 harg1 arg2 harg2 arg3 harg3 arg4 harg4 arg5 harg5 arg6 harg6 arg7 harg7 arg8 harg8 arg9 harg9 arg10 harg10 hc x0 x1 x2 x3 x4).2.1 = xsOf x0 :=
  funext fun y => View.canon_apply_of_pieces (Val := Elt Ideal) (xsOf x0) _
    (loop_pieces c i arg1 harg1 arg2 harg2 arg3 harg3 arg4 harg4 arg5 harg5 arg6 harg6 arg7 harg7 arg8 harg8 arg9 harg9 arg10 harg10 x0 hc (Scf.trips k0_t1_loop.lb k0_t1_loop.ub k0_t1_loop.st) (le_refl _)).1 y
    (scover0_A_0 c i arg1 harg1 arg2 harg2 arg3 harg3 arg4 harg4 arg5 harg5 arg6 harg6 arg7 harg7 arg8 harg8 arg9 harg9 arg10 harg10 hc x0 x1 x2 x3 x4 y)

theorem sout_A0 (hc : cond0_0 i) : sout0_A_0 (F := Ideal) c i arg1 harg1 arg2 harg2 arg3 harg3 arg4 harg4 arg5 harg5 arg6 harg6 arg7 harg7 arg8 harg8 arg9 harg9 arg10 harg10 hc x0 x1 x2 x3 x4 = xsOf x0 :=
  (read_canon VS0_0 _ _ (scover0_A_0 c i arg1 harg1 arg2 harg2 arg3 harg3 arg4 harg4 arg5 harg5 arg6 harg6 arg7 harg7 arg8 harg8 arg9 harg9 arg10 harg10 hc x0 x1 x2 x3 x4)).trans (canon_A0 c i arg1 harg1 arg2 harg2 arg3 harg3 arg4 harg4 arg5 harg5 arg6 harg6 arg7 harg7 arg8 harg8 arg9 harg9 arg10 harg10 x0 x1 x2 x3 x4 hc)

theorem canon_A1 (hc : cond0_0 i) :
    View.canon (kernelRun0_A (F := Ideal) c i arg1 harg1 arg2 harg2 arg3 harg3 arg4 harg4 arg5 harg5 arg6 harg6 arg7 harg7 arg8 harg8 arg9 harg9 arg10 harg10 hc x0 x1 x2 x3 x4).2.2.1 = meanOf x0 :=
  funext fun y => View.canon_apply_of_pieces (Val := Elt Ideal) (meanOf x0) _
    (loop_pieces c i arg1 harg1 arg2 harg2 arg3 harg3 arg4 harg4 arg5 harg5 arg6 harg6 arg7 harg7 arg8 harg8 arg9 harg9 arg10 harg10 x0 hc (Scf.trips k0_t1_loop.lb k0_t1_loop.ub k0_t1_loop.st) (le_refl _)).2.1 y
    (scover0_A_1 c i arg1 harg1 arg2 harg2 arg3 harg3 arg4 harg4 arg5 harg5 arg6 harg6 arg7 harg7 arg8 harg8 arg9 harg9 arg10 harg10 hc x0 x1 x2 x3 x4 y)

theorem sout_A1 (hc : cond0_0 i) : sout0_A_1 (F := Ideal) c i arg1 harg1 arg2 harg2 arg3 harg3 arg4 harg4 arg5 harg5 arg6 harg6 arg7 harg7 arg8 harg8 arg9 harg9 arg10 harg10 hc x0 x1 x2 x3 x4 = meanOf x0 :=
  (read_canon VS0_1 _ _ (scover0_A_1 c i arg1 harg1 arg2 harg2 arg3 harg3 arg4 harg4 arg5 harg5 arg6 harg6 arg7 harg7 arg8 harg8 arg9 harg9 arg10 harg10 hc x0 x1 x2 x3 x4)).trans (canon_A1 c i arg1 harg1 arg2 harg2 arg3 harg3 arg4 harg4 arg5 harg5 arg6 harg6 arg7 harg7 arg8 harg8 arg9 harg9 arg10 harg10 x0 x1 x2 x3 x4 hc)

theorem canon_A2 (hc : cond0_0 i) :
    View.canon (kernelRun0_A (F := Ideal) c i arg1 harg1 arg2 harg2 arg3 harg3 arg4 harg4 arg5 harg5 arg6 harg6 arg7 harg7 arg8 harg8 arg9 harg9 arg10 harg10 hc x0 x1 x2 x3 x4).2.2.2.1 = rdevOf x0 :=
  funext fun y => View.canon_apply_of_pieces (Val := Elt Ideal) (rdevOf x0) _
    (loop_pieces c i arg1 harg1 arg2 harg2 arg3 harg3 arg4 harg4 arg5 harg5 arg6 harg6 arg7 harg7 arg8 harg8 arg9 harg9 arg10 harg10 x0 hc (Scf.trips k0_t1_loop.lb k0_t1_loop.ub k0_t1_loop.st) (le_refl _)).2.2 y
    (scover0_A_2 c i arg1 harg1 arg2 harg2 arg3 harg3 arg4 harg4 arg5 harg5 arg6 harg6 arg7 harg7 arg8 harg8 arg9 harg9 arg10 harg10 hc x0 x1 x2 x3 x4 y)

theorem sout_A2 (hc : cond0_0 i) : sout0_A_2 (F := Ideal) c i arg1 harg1 arg2 harg2 arg3 harg3 arg4 harg4 arg5 harg5 arg6 harg6 arg7 harg7 arg8 harg8 arg9 harg9 arg10 harg10 hc x0 x1 x2 x3 x4 = rdevOf x0 :=
  (read_canon VS0_2 _ _ (scover0_A_2 c i arg1 harg1 arg2 harg2 arg3 harg3 arg4 harg4 arg5 harg5 arg6 harg6 arg7 harg7 arg8 harg8 arg9 harg9 arg10 harg10 hc x0 x1 x2 x3 x4)).trans (canon_A2 c i arg1 harg1 arg2 harg2 arg3 harg3 arg4 harg4 arg5 harg5 arg6 harg6 arg7 harg7 arg8 harg8 arg9 harg9 arg10 harg10 x0 x1 x2 x3 x4 hc)

/-- A later point's output block. -/
theorem out_B (hc : ¬cond0_0 i) :
    out0_B_5 (F := Ideal) c i arg1 harg1 arg2 harg2 arg3 harg3 arg4 harg4 arg5 harg5 arg6 harg6 arg7 harg7 arg8 harg8 arg9 harg9 arg10 harg10 hc x0 x1 x2 x3 x4 xs0 xs1 xs2 = outCell x3 x1 x2 x4 xs0 xs1 xs2 := by
  have hp := pieces_B c i arg1 harg1 arg2 harg2 arg3 harg3 arg4 harg4 arg5 harg5 arg6 harg6 arg7 harg7 arg8 harg8 arg9 harg9 arg10 harg10 x0 x1 x2 x3 x4 xs0 xs1 xs2 hc
  have hv := cover0_B_5 c i arg1 harg1 arg2 harg2 arg3 harg3 arg4 harg4 arg5 harg5 arg6 harg6 arg7 harg7 arg8 harg8 arg9 harg9 arg10 harg10 hc x0 x1 x2 x3 x4 xs0 xs1 xs2
  refine (read_canon VO0_5 _ _ hv).trans ?_
  rw [hp] at hv ⊢
  exact canon_outL _ _ _ _ _ _ _ hv

/-- The first point's output block. -/
theorem out_A (hc : cond0_0 i) :
    out0_A_5 (F := Ideal) c i arg1 harg1 arg2 harg2 arg3 harg3 arg4 harg4 arg5 harg5 arg6 harg6 arg7 harg7 arg8 harg8 arg9 harg9 arg10 harg10 hc x0 x1 x2 x3 x4 = outCell x3 x1 x2 x4 (xsOf x0) (meanOf x0) (rdevOf x0) := by
  have hp := pieces_A c i arg1 harg1 arg2 harg2 arg3 harg3 arg4 harg4 arg5 harg5 arg6 harg6 arg7 harg7 arg8 harg8 arg9 harg9 arg10 harg10 x0 x1 x2 x3 x4 hc
  rw [canon_A0, canon_A1, canon_A2] at hp
  have hv := cover0_A_5 c i arg1 harg1 arg2 harg2 arg3 harg3 arg4 harg4 arg5 harg5 arg6 harg6 arg7 harg7 arg8 harg8 arg9 harg9 arg10 harg10 hc x0 x1 x2 x3 x4
  refine (read_canon VO0_5 _ _ hv).trans ?_
  rw [hp] at hv ⊢
  exact canon_outL _ _ _ _ _ _ _ hv

end Cert.QkvIdeal.Hand

end
-- ==== Proof.Hand.QRef.lean ====
/- The first call's reference: its result after the run, row by row. -/
module

public import proofs.«01_k».proof.Proof.Hand.QRows
public import proofs.«01_k».proof.Proof.Gen.QkvReferenceIdeal.Frame
public import Idealize.ShloMosaic.Lib.Pointwise
public import Idealize.ShloMosaic.Lib.Pipeline.ValueKit

@[expose] public section

set_option maxRecDepth 16384

noncomputable section

namespace Cert.QkvReferenceIdeal.Hand

open Idealize.ShloMosaic Idealize.ShloMosaic.TcCoe Idealize.SL.Sem
open Idealize.ShloMosaic.Pipeline (Dat)
open Cert.QkvReferenceIdeal Cert.QkvReferenceIdeal.Gen Cert.Quant

theorem pay_apply (x : Vec Ideal S1536x2048 .bf16) (g b : Vec Ideal S1x2048 .f32) (w : Vec Ideal S6144x2048 .f32) (t : Vec Ideal S1x6144 .f32)
    (r : Fin 1536) (n : Fin 6144) :
    k0_pay1 x g b w t (ix2 r n)
      = qkvRef (fun k => x (ix2 r k)) (fun k => g (ix2 0 k)) (fun k => b (ix2 0 k)) (fun k => w (ix2 n k)) (t (ix2 0 n)) := by
  pointwise [k0_pay1]
  rfl

/-- The result as an array. -/
def refA (x : Vec Ideal S1536x2048 .bf16) (g b : Vec Ideal S1x2048 .f32) (w : Vec Ideal S6144x2048 .f32) (t : Vec Ideal S1x6144 .f32) :
    Vec Ideal S1536x6144 .f32 := fun i =>
  qkvRef (fun k => x (ix2 (i 0) k)) (fun k => g (ix2 0 k)) (fun k => b (ix2 0 k)) (fun k => w (ix2 (i 1) k)) (t (ix2 0 (i 1)))

theorem out_eq (x : Vec Ideal S1536x2048 .bf16) (g b : Vec Ideal S1x2048 .f32) (w : Vec Ideal S6144x2048 .f32) (t : Vec Ideal S1x6144 .f32) :
    out0_5 x g b w t = refA x g b w t := by
  unfold out0_5
  rw [View.canon_cons_unit_lit _ _ _ (by decide), View.ld_unit_lit _ x (by decide), View.ld_unit_lit _ g (by decide), View.ld_unit_lit _ b (by decide),
    View.ld_unit_lit _ w (by decide), View.ld_unit_lit _ t (by decide)]
  funext i
  obtain ⟨r, n, rfl⟩ : ∃ (r : Fin 1536) (n : Fin 6144), i = ix2 r n := ⟨i 0, i 1, eq_ix2 i⟩
  exact pay_apply x g b w t r n

variable (m : (ℓ : Loc nD τ sig) → Buf (Elt Ideal) ℓ)

theorem idx_0 : win0_0.index t0_0 = ![0, 0] := by decide +kernel
theorem iblk_0 (c : Dev nD) : iblk m c 0 t0_0 = m ((c : Thread nD τ).loc main_arg0) := by
  funext y
  blk_simp [iblk, V]
  blk_ext [iblk, V, idx_0]

theorem idx_1 : win0_1.index t0_0 = ![0, 0] := by decide +kernel
theorem iblk_1 (c : Dev nD) : iblk m c 1 t0_0 = m ((c : Thread nD τ).loc main_arg1) := by
  funext y
  blk_simp [iblk, V]
  blk_ext [iblk, V, idx_1]

theorem idx_2 : win0_2.index t0_0 = ![0, 0] := by decide +kernel
theorem iblk_2 (c : Dev nD) : iblk m c 2 t0_0 = m ((c : Thread nD τ).loc main_arg2) := by
  funext y
  blk_simp [iblk, V]
  blk_ext [iblk, V, idx_2]

theorem idx_3 : win0_3.index t0_0 = ![0, 0] := by decide +kernel
theorem iblk_3 (c : Dev nD) : iblk m c 3 t0_0 = m ((c : Thread nD τ).loc main_arg3) := by
  funext y
  blk_simp [iblk, V]
  blk_ext [iblk, V, idx_3]

theorem idx_4 : win0_4.index t0_0 = ![0, 0] := by decide +kernel
theorem iblk_4 (c : Dev nD) : iblk m c 4 t0_0 = m ((c : Thread nD τ).loc main_arg4) := by
  funext y
  blk_simp [iblk, V]
  blk_ext [iblk, V, idx_4]

/-- The result array after the run. -/
theorem final_5 (c : Dev nD) : (dats m 0 c).arrAt 5 (cfgs 0).N
    = refA (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_after_last 5 t0_0 (by decide +kernel) _ fun j => ?_
  blk_simp
  rw [after0_5, iblk_0, iblk_1, iblk_2, iblk_3, iblk_4, out_eq]

end Cert.QkvReferenceIdeal.Hand

end
-- ==== Proof.Hand.QArr.lean ====
/- The first call's result after its run, as an array: from what its points leave to the reference's array. -/
module

public import proofs.«01_k».proof.Proof.Hand.QOut
public import proofs.«01_k».proof.Proof.Hand.QRef
public import proofs.«01_k».proof.Proof.Hand.Finite
public import proofs.«01_k».proof.Proof.Gen.QkvIdeal.Frame
public import Idealize.ShloMosaic.Lib.Pipeline.ArrRel

@[expose] public section

set_option maxRecDepth 16384

noncomputable section

namespace Cert.QkvIdeal.Hand

open Idealize.ShloMosaic Idealize.ShloMosaic.TcCoe Idealize.SL.Sem
open Idealize.ShloMosaic.Pipeline (Dat)
open Cert.QkvIdeal Cert.QkvIdeal.Gen Cert.Quant

/-! ## The blocks -/

theorem idx_0 : ∀ t : Fin cfg0.N, win0_0.index t = ![0, 0] := (by decide +kernel : ∀ t : Fin grid0.N, win0_0.index t = ![0, 0])
theorem idx_1 : ∀ t : Fin cfg0.N, win0_1.index t = ![0, 0] := (by decide +kernel : ∀ t : Fin grid0.N, win0_1.index t = ![0, 0])
theorem idx_2 : ∀ t : Fin cfg0.N, win0_2.index t = ![0, 0] := (by decide +kernel : ∀ t : Fin grid0.N, win0_2.index t = ![0, 0])
theorem idx_3 : ∀ t : Fin cfg0.N, win0_3.index t = ![t.val, 0] := (by decide +kernel : ∀ t : Fin grid0.N, win0_3.index t = ![t.val, 0])
theorem idx_4 : ∀ t : Fin cfg0.N, win0_4.index t = ![0, t.val] := (by decide +kernel : ∀ t : Fin grid0.N, win0_4.index t = ![0, t.val])
theorem idx_5 : ∀ t : Fin cfg0.N, win0_5.index t = ![0, t.val] := (by decide +kernel : ∀ t : Fin grid0.N, win0_5.index t = ![0, t.val])

/-- A point's column of the result, which is a row of the weights. -/
def colAt (t : Fin cfg0.N) (r : Fin 256) : Fin 6144 :=
  ⟨t.val * 256 + r.val, by have h : t.val < grid0.N := t.isLt; rw [N_0] at h; omega⟩

variable (m : (ℓ : Loc nD τ sig) → Buf (Elt Ideal) ℓ) (c : Dev nD)

theorem iblk_0 (t : Fin cfg0.N) : iblk m c 0 t = m ((c : Thread nD τ).loc main_arg0) := by
  funext y
  blk_simp [iblk, V]
  blk_ext [iblk, V, idx_0 t]
theorem iblk_1 (t : Fin cfg0.N) : iblk m c 1 t = m ((c : Thread nD τ).loc main_arg1) := by
  funext y
  blk_simp [iblk, V]
  blk_ext [iblk, V, idx_1 t]
theorem iblk_2 (t : Fin cfg0.N) : iblk m c 2 t = m ((c : Thread nD τ).loc main_arg2) := by
  funext y
  blk_simp [iblk, V]
  blk_ext [iblk, V, idx_2 t]
theorem iblk_3 (t : Fin cfg0.N) (r : Fin 256) (k : Fin 2048) :
    iblk m c 3 t (ix2 r k) = m ((c : Thread nD τ).loc main_arg3) (ix2 (colAt t r) k) := by
  blk_simp [iblk, V]
  blk_ext [iblk, V, idx_3 t, colAt]
theorem iblk_4 (t : Fin cfg0.N) (r : Fin 256) :
    iblk m c 4 t (ix2 0 r) = m ((c : Thread nD τ).loc main_arg4) (ix2 0 (colAt t r)) := by
  blk_simp [iblk, V]
  blk_ext [iblk, V, idx_4 t, colAt]

/-! ## The scratch: written at the first point, kept from then on -/

/-- The activations. -/
abbrev X0 : Vec Ideal S1536x2048 .bf16 := m ((c : Thread nD τ).loc main_arg0)

theorem scratch (n : ℕ) (hn : n < cfg0.N) :
    (outsAt0 m c n hn).2.1 = xsOf (X0 m c) ∧ (outsAt0 m c n hn).2.2.1 = meanOf (X0 m c) ∧ (outsAt0 m c n hn).2.2.2 = rdevOf (X0 m c) := by
  induction n using Nat.strong_induction_on with
  | _ n ih =>
    by_cases h0 : n % 24 = 0
    · rw [outsAt0_A m c ⟨n, hn⟩ h0]
      refine ⟨(sout_A0 ..).trans ?_, (sout_A1 ..).trans ?_, (sout_A2 ..).trans ?_⟩ <;> rw [iblk_0]
    · have hp : 0 < n := Nat.pos_of_ne_zero fun h => h0 (by rw [h])
      obtain ⟨e0, e1, e2⟩ := ih (n - 1) (Nat.sub_lt hp Nat.one_pos) (Nat.lt_of_le_of_lt (Nat.sub_le _ _) hn)
      rw [outsAt0_B m c ⟨n, hn⟩ h0]
      dsimp only [sout0_B_0, sout0_B_1, sout0_B_2]
      rw [e0, e1, e2]
      exact ⟨rfl, rfl, rfl⟩

/-- What a point leaves in the output block. -/
theorem out_at (t : Fin cfg0.N) :
    (outsAt0 m c t.val t.isLt).1
      = outCell (iblk m c 3 t) (iblk m c 1 t) (iblk m c 2 t) (iblk m c 4 t) (xsOf (X0 m c)) (meanOf (X0 m c)) (rdevOf (X0 m c)) := by
  by_cases h0 : t.val % 24 = 0
  · rw [outsAt0_A m c t h0]
    refine (out_A ..).trans ?_
    rw [iblk_0]
  · rw [outsAt0_B m c t h0]
    dsimp only
    obtain ⟨e0, e1, e2⟩ := scratch m c (t.val - 1) (Nat.lt_of_le_of_lt (Nat.sub_le _ _) t.isLt)
    rw [e0, e1, e2]
    exact out_B ..

/-! ## The result -/

/-- The result as an array, in the kernel's own form. -/
def qkvA (x : Vec Ideal S1536x2048 .bf16) (g b : Vec Ideal S1x2048 .f32) (w : Vec Ideal S6144x2048 .f32) (t : Vec Ideal S1x6144 .f32) :
    Vec Ideal S1536x6144 .f32 := fun i =>
  qkvCell (cen fun k => x (ix2 (i 0) k)) (mean (cen fun k => x (ix2 (i 0) k))) (rdev (cen fun k => x (ix2 (i 0) k)))
    (fun k => g (ix2 0 k)) (fun k => b (ix2 0 k)) (fun k => w (ix2 (i 1) k)) (t (ix2 0 (i 1)))

theorem cell_at (t : Fin cfg0.N) (p : Fin 1536) (q : Fin 256) :
    (outsAt0 m c t.val t.isLt).1 (ix2 p q)
      = qkvA (X0 m c) (m ((c : Thread nD τ).loc main_arg1)) (m ((c : Thread nD τ).loc main_arg2)) (m ((c : Thread nD τ).loc main_arg3))
          (m ((c : Thread nD τ).loc main_arg4)) (ix2 p (colAt t q)) := by
  rw [out_at, iblk_1, iblk_2]
  unfold outCell qkvA
  simp only [ix2_0, ix2_1, iblk_3, iblk_4]
  rfl

theorem final_5 : (dats m 0 c).arrAt 5 cfg0.N
    = qkvA (X0 m c) (m ((c : Thread nD τ).loc main_arg1)) (m ((c : Thread nD τ).loc main_arg2)) (m ((c : Thread nD τ).loc main_arg3))
        (m ((c : Thread nD τ).loc main_arg4)) := by
  refine Dat.arrAt_eq_of_covers _ 5 _ (by decide +kernel) fun t hf y => ?_
  obtain ⟨p, q, rfl⟩ : ∃ (p : Fin 1536) (q : Fin 256), y = ix2 p q := ⟨y 0, y 1, eq_ix2 y⟩
  blk_simp
  rw [after0_5, cell_at]
  blk_ext [idx_5 t, colAt]

/-! ## The precondition -/

/-- The predicate's side conditions. -/
instance preFacts : Cert.Pre_finite_qkv.Facts where
  bcast_S_S1x2048 := by decide
  bcast_S_S6144x2048 := by decide

/-- Under the precondition the result is the reference's. -/
theorem final_ref (h : Cert.Pre_QkvIdeal_finite_qkv m) : (dats m 0 c).arrAt 5 cfg0.N
    = Cert.QkvReferenceIdeal.Hand.refA (X0 m c) (m ((c : Thread nD τ).loc main_arg1)) (m ((c : Thread nD τ).loc main_arg2))
        (m ((c : Thread nD τ).loc main_arg3)) (m ((c : Thread nD τ).loc main_arg4)) := by
  obtain ⟨h0, h1⟩ := h c
  rw [final_5]
  funext i
  exact qkv_eq (fun k => Cert.KernelIdeal.Hand.real_of_mask _ h0 (ix2 0 k)) (fun k => Cert.KernelIdeal.Hand.real_of_mask _ h1 (ix2 (i 1) k))

end Cert.QkvIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Hand.ArrK2
public import proofs.«01_k».proof.Proof.Hand.ArrR
public import proofs.«01_k».proof.Proof.Hand.Finite
public import proofs.«01_k».proof.Proof.Hand.Same
public import proofs.«01_k».proof.Proof.Hand.QArr
public import Idealize.ShloMosaic.Adequacy
public import Idealize.ShloMosaic.Lib.Claim
public import Idealize.ShloMosaic.Init

@[expose] public section

noncomputable section

namespace Cert.Proof

open Idealize.ShloMosaic Idealize.ShloMosaic.TcCoe Idealize.SL.Sem Cert.Quant

variable (m : (ℓ : Loc Cert.KernelIdeal.nD Cert.KernelIdeal.τ Cert.KernelIdeal.sig) → Buf (Elt Ideal) ℓ) (c : Dev Cert.KernelIdeal.nD)

/-- The weights among the kernel's arguments, -/
abbrev W : Wts := Cert.KernelIdeal.Hand.WM m c
/-- the tokens' rows, -/
abbrev X : Sx.Idx → EReal := Cert.KernelIdeal.Hand.XA m c
/-- their sizes, -/
abbrev Z : Stok.Idx → EReal := Cert.KernelIdeal.Hand.ZA m c
/-- and their slots. -/
abbrev D : Stok.Idx → BitVec 32 := Cert.KernelIdeal.Hand.DA m c

/-- The kernel's run: every result at its array, the arguments unchanged. -/
theorem kernel_run (g : Dev Cert.KernelIdeal.nD → PrngReg) (h : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0) = outA (W m c) (X m c) (Z m c) (D m c)
      ∧ r.2.mem ((c.tc : Thread Cert.KernelIdeal.nD Cert.KernelIdeal.τ).loc Cert.KernelIdeal.main_v1_1) = szA (Z m c) (D m c)
      ∧ r.2.mem ((c.tc : Thread Cert.KernelIdeal.nD Cert.KernelIdeal.τ).loc Cert.KernelIdeal.main_v1_2) = hcA (W m c) (X m c)
      ∧ r.2.mem ((c.tc : Thread Cert.KernelIdeal.nD Cert.KernelIdeal.τ).loc Cert.KernelIdeal.main_v1_3) = hsA (W m c) (X m c)
      ∧ r.2.mem ((c.tc : Thread Cert.KernelIdeal.nD Cert.KernelIdeal.τ).loc Cert.KernelIdeal.main_v1_4) = gcA (W m c) (X m c)
      ∧ r.2.mem ((c.tc : Thread Cert.KernelIdeal.nD Cert.KernelIdeal.τ).loc Cert.KernelIdeal.main_v1_5) = gsA (W m c) (X m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) := by
  refine (θ_run Cert.KernelIdeal.defs _ _).mono ?_ (θ_run_and (Cert.KernelIdeal.Hand.run_main m g) (Cert.KernelIdeal.Hand.frame m g))
  rintro r ⟨hr, ha, -⟩ c
  exact ⟨Cert.KernelIdeal.Hand.final_11 m hr c (Cert.KernelIdeal.Hand.fin_of_pre m h c), Cert.KernelIdeal.Hand.final_12 m hr c,
    Cert.KernelIdeal.Hand.final_13 m hr c, Cert.KernelIdeal.Hand.final_14 m hr c, Cert.KernelIdeal.Hand.final_15 m hr c,
    Cert.KernelIdeal.Hand.final_16 m hr c, ha c⟩

/-- The reference's run, from the same arguments: every result at the same array. -/
theorem reference_run (m' : (ℓ : Loc Cert.ReferenceIdeal.nD Cert.ReferenceIdeal.τ Cert.ReferenceIdeal.sig) → Buf (Elt Ideal) ℓ) (g' : Dev Cert.ReferenceIdeal.nD → PrngReg)
    (hm : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0_0) = outA (W m c) (X m c) (Z m c) (D m c)
      ∧ r.2.mem ((c.tc : Thread Cert.ReferenceIdeal.nD Cert.ReferenceIdeal.τ).loc Cert.ReferenceIdeal.main_v0_1) = szA (Z m c) (D m c)
      ∧ r.2.mem ((c.tc : Thread Cert.ReferenceIdeal.nD Cert.ReferenceIdeal.τ).loc Cert.ReferenceIdeal.main_v0_2) = hcA (W m c) (X m c)
      ∧ r.2.mem ((c.tc : Thread Cert.ReferenceIdeal.nD Cert.ReferenceIdeal.τ).loc Cert.ReferenceIdeal.main_v0_3) = hsA (W m c) (X m c)
      ∧ r.2.mem ((c.tc : Thread Cert.ReferenceIdeal.nD Cert.ReferenceIdeal.τ).loc Cert.ReferenceIdeal.main_v0_4) = gcA (W m c) (X m c)
      ∧ r.2.mem ((c.tc : Thread Cert.ReferenceIdeal.nD Cert.ReferenceIdeal.τ).loc Cert.ReferenceIdeal.main_v0_5) = gsA (W m c) (X m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)) := by
  refine (θ_run Cert.ReferenceIdeal.defs _ _).mono ?_ (θ_run_and (Cert.ReferenceIdeal.Gen.run_main m' g') (Cert.ReferenceIdeal.Gen.frame m' g'))
  rintro r ⟨hr, ha, -⟩ c
  obtain ⟨e0, e1, e2, e3, e4, e5, e6, e7, e8, e9, e10⟩ := hm c
  have eW : Cert.ReferenceIdeal.Hand.WM m' c = W m c := by
    unfold Cert.ReferenceIdeal.Hand.WM
    rw [e3, e4, e5, e6, e7, e8, e9, e10]
  refine ⟨((hr c).1 11).trans ((Cert.ReferenceIdeal.Hand.final_11 m' c).trans ?_), ((hr c).1 12).trans ((Cert.ReferenceIdeal.Hand.final_12 m' c).trans ?_),
    ((hr c).1 13).trans ((Cert.ReferenceIdeal.Hand.final_13 m' c).trans ?_), ((hr c).1 14).trans ((Cert.ReferenceIdeal.Hand.final_14 m' c).trans ?_),
    ((hr c).1 15).trans ((Cert.ReferenceIdeal.Hand.final_15 m' c).trans ?_), ((hr c).1 16).trans ((Cert.ReferenceIdeal.Hand.final_16 m' c).trans ?_), ha c⟩
  · rw [eW, e0, e1, e2]
  · rw [e1, e2]
  · rw [eW, e0]
  · rw [eW, e0]
  · rw [eW, e0]
  · rw [eW, e0]

/-! ## The first call -/

variable (q : (ℓ : Loc Cert.QkvIdeal.nD Cert.QkvIdeal.τ Cert.QkvIdeal.sig) → Buf (Elt Ideal) ℓ)

/-- The first call's result, as its reference computes it from the arguments. -/
abbrev qkv (c : Dev Cert.QkvIdeal.nD) : Vec Ideal Cert.QkvIdeal.S1536x6144 .f32 :=
  Cert.QkvReferenceIdeal.Hand.refA (q ((c.tc : Thread Cert.QkvIdeal.nD Cert.QkvIdeal.τ).loc Cert.QkvIdeal.main_arg0)) (q ((c.tc : Thread Cert.QkvIdeal.nD Cert.QkvIdeal.τ).loc Cert.QkvIdeal.main_arg1)) (q ((c.tc : Thread Cert.QkvIdeal.nD Cert.QkvIdeal.τ).loc Cert.QkvIdeal.main_arg2)) (q ((c.tc : Thread Cert.QkvIdeal.nD Cert.QkvIdeal.τ).loc Cert.QkvIdeal.main_arg3)) (q ((c.tc : Thread Cert.QkvIdeal.nD Cert.QkvIdeal.τ).loc Cert.QkvIdeal.main_arg4))

/-- The first call's run: its result at that array, the arguments unchanged. -/
theorem qkv_kernel_run (g : Dev Cert.QkvIdeal.nD → PrngReg) (h : Cert.Pre_QkvIdeal_finite_qkv q) :
    θ_run (Cert.QkvIdeal.defs (F := Ideal)) (onTc (τ := Cert.QkvIdeal.τ) (Cert.QkvIdeal.main (F := Ideal))) ⟨q, fun _ => 0, g⟩ (fun r => ∀ c : Dev Cert.QkvIdeal.nD,
      r.2.mem ((c.tc : Thread Cert.QkvIdeal.nD Cert.QkvIdeal.τ).loc Cert.QkvIdeal.main_v0) = qkv q c
      ∧ r.2.mem ((c.tc : Thread Cert.QkvIdeal.nD Cert.QkvIdeal.τ).loc Cert.QkvIdeal.main_arg0) = q ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = q ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = q ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = q ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = q ((c.tc : Thread Cert.QkvIdeal.nD Cert.QkvIdeal.τ).loc Cert.QkvIdeal.main_arg4)) := by
  refine (θ_run Cert.QkvIdeal.defs _ _).mono ?_ (θ_run_and (Cert.QkvIdeal.Gen.run_main q g) (Cert.QkvIdeal.Gen.frame q g))
  rintro r ⟨hr, ha, -⟩ c
  exact ⟨((hr c).1 5).trans (Cert.QkvIdeal.Hand.final_ref q c h), ha c⟩

/-- The reference's run, from the same arguments. -/
theorem qkv_reference_run (m' : (ℓ : Loc Cert.QkvReferenceIdeal.nD Cert.QkvReferenceIdeal.τ Cert.QkvReferenceIdeal.sig) → Buf (Elt Ideal) ℓ) (g' : Dev Cert.QkvReferenceIdeal.nD → PrngReg)
    (hm : ∀ c : Dev Cert.QkvIdeal.nD,
      m' ((c.tc : Thread Cert.QkvReferenceIdeal.nD Cert.QkvReferenceIdeal.τ).loc Cert.QkvReferenceIdeal.main_arg0) = q ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = q ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = q ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = q ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = q ((c.tc : Thread Cert.QkvIdeal.nD Cert.QkvIdeal.τ).loc Cert.QkvIdeal.main_arg4)) :
    θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
      r.2.mem ((c.tc : Thread Cert.QkvReferenceIdeal.nD Cert.QkvReferenceIdeal.τ).loc Cert.QkvReferenceIdeal.main_v0) = qkv q c
      ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)) := by
  refine (θ_run Cert.QkvReferenceIdeal.defs _ _).mono ?_ (θ_run_and (Cert.QkvReferenceIdeal.Gen.run_main m' g') (Cert.QkvReferenceIdeal.Gen.frame m' g'))
  rintro r ⟨hr, ha, -⟩ c
  obtain ⟨e0, e1, e2, e3, e4⟩ := hm c
  refine ⟨((hr c).1 5).trans ((Cert.QkvReferenceIdeal.Hand.final_5 m' c).trans ?_), ha c⟩
  rw [e0, e1, e2, e3, e4]

/-- The frames of both calls, and each call's results equal to its reference's over the extended reals; no operation was rewritten by
    the ideal pass, so `preserves` is trivial. -/
theorem claim : Cert.Claim := ⟨Cert.Kernel.Gen.facts, Cert.KernelIdeal.Gen.facts, Cert.ReferenceIdeal.Gen.facts,
  Cert.Qkv.Gen.facts, Cert.QkvIdeal.Gen.facts, Cert.QkvReferenceIdeal.Gen.facts, Cert.KernelIdeal.Hand.preFacts, Cert.QkvIdeal.Hand.preFacts,
  fun m ρ _ => Cert.KernelIdeal.Hand.kernel_frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  fun m ρ _ => Cert.Qkv.Gen.frame m ρ, fun m ρ _ => Cert.QkvIdeal.Gen.frame m ρ, fun m ρ _ => Cert.QkvIdeal.Gen.frame m ρ,
  fun m ρ _ => Cert.QkvReferenceIdeal.Gen.frame m ρ, fun m ρ _ => Cert.QkvReferenceIdeal.Gen.frame m ρ, trivial,
  fun m g m' g' h hm => ⟨fun c => outA (W m c) (X m c) (Z m c) (D m c), fun c => szA (Z m c) (D m c), fun c => hcA (W m c) (X m c),
    fun c => hsA (W m c) (X m c), fun c => gcA (W m c) (X m c), fun c => gsA (W m c) (X m c),
    kernel_run m g h, reference_run m m' g' hm⟩,
  trivial, fun q g m' g' h hm => ⟨qkv q, qkv_kernel_run q g h, qkv_reference_run q m' g' hm⟩⟩

end Cert.Proof

end
